-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_projections [hPre_finite_projections : Cert.Pre_finite_projections.Facts] (m : (ℓ : Loc Cert.KernelIdeal.nD Cert.KernelIdeal.τ Cert.KernelIdeal.sig) → Buf (Elt Ideal) ℓ) : Prop :=
  ∀ c : Dev Cert.KernelIdeal.nD,
    (Cert.Pre_finite_projections.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_projections [hPre_finite_projections : Cert.Pre_finite_projections.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_projections.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_projections [hKernelIdeal : Cert.KernelIdeal.Facts] [hPre_finite_projections : Cert.Pre_finite_projections.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_projections m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_projections [hReferenceIdeal : Cert.ReferenceIdeal.Facts] [hPre_finite_projections : Cert.Pre_finite_projections.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_projections m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "inv_q_scale" .bf16 0x40B1#16 ((8 * (Real.log 2) : ℝ) : EReal)

def algebraic_KernelIdeal_ReferenceIdeal_pre_finite_projections [hKernelIdeal : Cert.KernelIdeal.Facts] [hReferenceIdeal : Cert.ReferenceIdeal.Facts] [hPre_finite_projections : Cert.Pre_finite_projections.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_projections m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_projections : Cert.Pre_finite_projections.Facts),
    quiescent_Kernel (hKernel := hKernel)
    ∧ quiescent_KernelIdeal (hKernelIdeal := hKernelIdeal)
    ∧ quiescent_KernelIdeal_pre_finite_projections (hKernelIdeal := hKernelIdeal) (hPre_finite_projections := hPre_finite_projections)
    ∧ quiescent_ReferenceIdeal (hReferenceIdeal := hReferenceIdeal)
    ∧ quiescent_ReferenceIdeal_pre_finite_projections (hReferenceIdeal := hReferenceIdeal) (hPre_finite_projections := hPre_finite_projections)
    ∧ preserves_Kernel_KernelIdeal
    ∧ algebraic_KernelIdeal_ReferenceIdeal_pre_finite_projections (hKernelIdeal := hKernelIdeal) (hReferenceIdeal := hReferenceIdeal) (hPre_finite_projections := hPre_finite_projections)
-- ==== Pre_finite_projections.lean ====
abbrev S4x8192x1024 : Shape := ⟨3, ![4, 8192, 1024]⟩
abbrev S1024x1024 : Shape := ⟨2, ![1024, 1024]⟩
abbrev S1x16x1x64 : Shape := ⟨4, ![1, 16, 1, 64]⟩
abbrev S1x16x64x64 : Shape := ⟨4, ![1, 16, 64, 64]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x8192x1024 .f32) (main_arg1 : FVec F S1024x1024 .f32) (main_arg2 : FVec F S1024x1024 .f32) (main_arg3 : FVec F S1024x1024 .f32) (main_arg4 : FVec F S1024x1024 .f32) (main_arg5 : FVec F S1x16x1x64 .f32) (main_arg6 : FVec F S1x16x64x64 .f32) (main_arg7 : FVec F S1x16x1x64 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x8192x1024 : Shape := ⟨3, ![4, 8192, 1024]⟩
abbrev S1024x1024 : Shape := ⟨2, ![1024, 1024]⟩
abbrev S1x16x1x64 : Shape := ⟨4, ![1, 16, 1, 64]⟩
abbrev S1x16x64x64 : Shape := ⟨4, ![1, 16, 64, 64]⟩
abbrev S16x1x64 : Shape := ⟨3, ![16, 1, 64]⟩
abbrev S16x64x64 : Shape := ⟨3, ![16, 64, 64]⟩
abbrev S16x64x1 : Shape := ⟨3, ![16, 64, 1]⟩
abbrev S16x64x128 : Shape := ⟨3, ![16, 64, 128]⟩
abbrev S1x512x1024 : Shape := ⟨3, ![1, 512, 1024]⟩
abbrev S512x1024 : Shape := ⟨2, ![512, 1024]⟩
abbrev S512x512 : Shape := ⟨2, ![512, 512]⟩
abbrev S512x64 : Shape := ⟨2, ![512, 64]⟩
abbrev S32x1024 : Shape := ⟨2, ![32, 1024]⟩
abbrev S32x64 : Shape := ⟨2, ![32, 64]⟩
abbrev S512x128 : Shape := ⟨2, ![512, 128]⟩
abbrev S1x64x128 : Shape := ⟨3, ![1, 64, 128]⟩
abbrev S64x128 : Shape := ⟨2, ![64, 128]⟩
abbrev S1x1x64 : Shape := ⟨3, ![1, 1, 64]⟩
abbrev S1x64 : Shape := ⟨2, ![1, 64]⟩

abbrev nBuf : Space → Nat
  | .hbm => 17
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1x16x1x64, .f32⟩
  | .hbm, ⟨6, _⟩ => ⟨S1x16x64x64, .f32⟩
  | .hbm, ⟨7, _⟩ => ⟨S1x16x1x64, .f32⟩
  | .hbm, ⟨8, _⟩ => ⟨S16x1x64, .f32⟩
  | .hbm, ⟨9, _⟩ => ⟨S16x64x64, .f32⟩
  | .hbm, ⟨10, _⟩ => ⟨S16x64x1, .f32⟩
  | .hbm, ⟨11, _⟩ => ⟨S16x64x64, .f32⟩
  | .hbm, ⟨12, _⟩ => ⟨S16x64x128, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S16x1x64, .f32⟩
  | .local _ .vmem, ⟨7, _⟩ => ⟨S16x64x128, .f32⟩
  | .local _ .vmem, ⟨8, _⟩ => ⟨S1x512x1024, .f32⟩
  | .local _ .vmem, ⟨9, _⟩ => ⟨S1x512x1024, .f32⟩
  | .local _ .vmem, ⟨10, _⟩ => ⟨S16x64x128, .f32⟩
  | .local _ .vmem, ⟨11, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_q_scale" => some ((8 * (Real.log 2) : ℝ) : EReal)
  | "q_scale" => some (((8 * (Real.log 2))⁻¹ : ℝ) : EReal)
  | _ => none
-- ==== ReferenceIdeal.lean ====
abbrev S4x8192x1024 : Shape := ⟨3, ![4, 8192, 1024]⟩
abbrev S1024x1024 : Shape := ⟨2, ![1024, 1024]⟩
abbrev S1x16x1x64 : Shape := ⟨4, ![1, 16, 1, 64]⟩
abbrev S1x16x64x64 : Shape := ⟨4, ![1, 16, 64, 64]⟩
abbrev S4x16x512x1024 : Shape := ⟨4, ![4, 16, 512, 1024]⟩
abbrev S_ : Shape := ⟨0, ![]⟩
abbrev S512x512 : Shape := ⟨2, ![512, 512]⟩
abbrev S4x16x64x64 : Shape := ⟨4, ![4, 16, 64, 64]⟩
abbrev S4x16x1x64 : Shape := ⟨4, ![4, 16, 1, 64]⟩
abbrev S16x4x512x1024 : Shape := ⟨4, ![16, 4, 512, 1024]⟩
abbrev S1x4x512x1024 : Shape := ⟨4, ![1, 4, 512, 1024]⟩
abbrev S4x512x1024 : Shape := ⟨3, ![4, 512, 1024]⟩
abbrev S4x16x512x64 : Shape := ⟨4, ![4, 16, 512, 64]⟩
abbrev S4x16x512x512 : Shape := ⟨4, ![4, 16, 512, 512]⟩
abbrev S4x16x512 : Shape := ⟨3, ![4, 16, 512]⟩
abbrev S4x16x512x1 : Shape := ⟨4, ![4, 16, 512, 1]⟩
abbrev S4x16x64x1 : Shape := ⟨4, ![4, 16, 64, 1]⟩
abbrev S4x16x64 : Shape := ⟨3, ![4, 16, 64]⟩

abbrev nBuf : Space → Nat
  | .hbm => 145
  | .vmem => 0
  | .smem => 0
  | _ => 0

abbrev hbmTy0_0 (i : Nat) : BufTy := match i % 128 with
  | 0 => ⟨S4x8192x1024, .f32⟩
  | 1 => ⟨S1024x1024, .f32⟩
  | 2 => ⟨S1024x1024, .f32⟩
  | 3 => ⟨S1024x1024, .f32⟩
  | 4 => ⟨S1024x1024, .f32⟩
  | 5 => ⟨S1x16x1x64, .f32⟩
  | 6 => ⟨S1x16x64x64, .f32⟩
  | 7 => ⟨S1x16x1x64, .f32⟩
  | 8 => ⟨S4x8192x1024, .f32⟩
  | 9 => ⟨S4x16x512x1024, .f32⟩
  | 10 => ⟨S4x8192x1024, .f32⟩
  | 11 => ⟨S4x16x512x1024, .f32⟩
  | 12 => ⟨S4x8192x1024, .f32⟩
  | 13 => ⟨S4x16x512x1024, .f32⟩
  | 14 => ⟨S_, .i1⟩
  | 15 => ⟨S512x512, .i1⟩
  | 16 => ⟨S512x512, .i32⟩
  | 17 => ⟨S_, .i32⟩
  | 18 => ⟨S512x512, .i32⟩
  | 19 => ⟨S512x512, .i32⟩
  | 20 => ⟨S512x512, .i32⟩
  | 21 => ⟨S512x512, .i1⟩
  | 22 => ⟨S_, .i1⟩
  | 23 => ⟨S512x512, .i1⟩
  | 24 => ⟨S512x512, .i1⟩
  | 25 => ⟨S1x16x1x64, .f32⟩
  | 26 => ⟨S1x16x1x64, .f32⟩
  | 27 => ⟨S_, .f32⟩
  | 28 => ⟨S1x16x1x64, .f32⟩
  | 29 => ⟨S1x16x1x64, .f32⟩
  | 30 => ⟨S_, .f32⟩
  | 31 => ⟨S1x16x1x64, .f32⟩
  | 32 => ⟨S1x16x1x64, .f32⟩
  | 33 => ⟨S_, .f32⟩
  | 34 => ⟨S_, .f32⟩
  | 35 => ⟨S_, .f32⟩
  | 36 => ⟨S_, .f32⟩
  | 37 => ⟨S4x16x64x64, .f32⟩
  | 38 => ⟨S4x16x1x64, .f32⟩
  | 39 => ⟨S16x4x512x1024, .f32⟩
  | 40 => ⟨S16x4x512x1024, .f32⟩
  | 41 => ⟨S16x4x512x1024, .f32⟩
  | 42 => ⟨S_, .f32⟩
  | 43 => ⟨S16x4x512x1024, .f32⟩
  | 44 => ⟨S_, .i32⟩
  | 45 => ⟨S16x4x512x1024, .f32⟩
  | 46 => ⟨S16x4x512x1024, .f32⟩
  | 47 => ⟨S16x4x512x1024, .f32⟩
  | 48 => ⟨S_, .f32⟩
  | 49 => ⟨S512x512, .i1⟩
  | 50 => ⟨S1x16x1x64, .f32⟩
  | 51 => ⟨S1024x1024, .f32⟩
  | 52 => ⟨S_, .i32⟩
  | 53 => ⟨S4x16x64x64, .f32⟩
  | 54 => ⟨S4x16x1x64, .f32⟩
  | 55 => ⟨S16x4x512x1024, .f32⟩
  | 56 => ⟨S_, .i32⟩
  | 57 => ⟨S_, .i1⟩
  | 58 => ⟨S_, .i32⟩
  | 59 => ⟨S_, .i32⟩
  | 60 => ⟨S_, .i32⟩
  | 61 => ⟨S1x4x512x1024, .f32⟩
  | 62 => ⟨S4x512x1024, .f32⟩
  | 63 => ⟨S_, .i32⟩
  | 64 => ⟨S_, .i32⟩
  | 65 => ⟨S_, .i32⟩
  | 66 => ⟨S1x4x512x1024, .f32⟩
  | 67 => ⟨S4x512x1024, .f32⟩
  | 68 => ⟨S_, .i32⟩
  | 69 => ⟨S_, .i32⟩
  | 70 => ⟨S_, .i32⟩
  | 71 => ⟨S1x4x512x1024, .f32⟩
  | 72 => ⟨S4x512x1024, .f32⟩
  | 73 => ⟨S4x16x512x64, .f32⟩
  | 74 => ⟨S4x16x512x64, .f32⟩
  | 75 => ⟨S4x16x512x64, .f32⟩
  | 76 => ⟨S4x16x512x512, .f32⟩
  | 77 => ⟨S4x16x512x512, .f32⟩
  | 78 => ⟨S4x16x512x512, .f32⟩
  | 79 => ⟨S_, .f32⟩
  | 80 => ⟨S_, .f32⟩
  | 81 => ⟨S4x16x512x512, .i1⟩
  | 82 => ⟨S4x16x512x512, .f32⟩
  | 83 => ⟨S4x16x512x512, .f32⟩
  | 84 => ⟨S_, .f32⟩
  | 85 => ⟨S4x16x512, .f32⟩
  | 86 => ⟨S_, .f32⟩
  | 87 => ⟨S4x16x512, .f32⟩
  | 88 => ⟨S4x16x512, .f32⟩
  | 89 => ⟨S4x16x512x1, .f32⟩
  | 90 => ⟨S4x16x512x512, .f32⟩
  | 91 => ⟨S4x16x512x512, .f32⟩
  | 92 => ⟨S4x16x512x512, .f32⟩
  | 93 => ⟨S_, .f32⟩
  | 94 => ⟨S4x16x512, .f32⟩
  | 95 => ⟨S4x16x512x1, .f32⟩
  | 96 => ⟨S4x16x512x512, .f32⟩
  | 97 => ⟨S4x16x512x512, .f32⟩
  | 98 => ⟨S4x16x512x64, .f32⟩
  | 99 => ⟨S_, .f32⟩
  | 100 => ⟨S4x16x512x64, .f32⟩
  | 101 => ⟨S4x16x512x64, .i1⟩
  | 102 => ⟨S4x16x512x64, .f32⟩
  | 103 => ⟨S4x16x512x64, .f32⟩
  | 104 => ⟨S_, .f32⟩
  | 105 => ⟨S4x16x512x64, .f32⟩
  | 106 => ⟨S4x16x512x64, .f32⟩
  | 107 => ⟨S4x16x512x64, .f32⟩
  | 108 => ⟨S4x16x64x1, .f32⟩
  | 109 => ⟨S4x16x512x1, .f32⟩
  | 110 => ⟨S4x16x512x64, .f32⟩
  | 111 => ⟨S4x16x512x64, .f32⟩
  | 112 => ⟨S_, .f32⟩
  | 113 => ⟨S4x16x512x64, .f32⟩
  | 114 => ⟨S4x16x512x64, .i1⟩
  | 115 => ⟨S4x16x512x64, .f32⟩
  | 116 => ⟨S4x16x512x64, .f32⟩
  | 117 => ⟨S_, .f32⟩
  | 118 => ⟨S4x16x512x64, .f32⟩
  | 119 => ⟨S4x16x512x64, .f32⟩
  | 120 => ⟨S4x16x64x64, .f32⟩
  | 121 => ⟨S4x16x64x64, .f32⟩
  | 122 => ⟨S_, .f32⟩
  | 123 => ⟨S4x16x64, .f32⟩
  | 124 => ⟨S4x16x1x64, .f32⟩
  | 125 => ⟨S4x16x1x64, .f32⟩
  | 126 => ⟨S4x16x512x64, .f32⟩
  | 127 => ⟨S4x16x512x64, .f32⟩
  | _ => ⟨S4x8192x1024, .f32⟩

abbrev hbmTy0_1 (i : Nat) : BufTy := match i % 128 with
  | 0 => ⟨S_, .f32⟩
  | 1 => ⟨S1x16x1x64, .f32⟩
  | 2 => ⟨S1x16x1x64, .f32⟩
  | 3 => ⟨S4x16x512x64, .f32⟩
  | 4 => ⟨S4x16x512x64, .f32⟩
  | 5 => ⟨S4x16x512x64, .f32⟩
  | 6 => ⟨S4x512x1024, .f32⟩
  | 7 => ⟨S4x512x1024, .f32⟩
  | 8 => ⟨S1x4x512x1024, .f32⟩
  | 9 => ⟨S_, .i32⟩
  | 10 => ⟨S_, .i32⟩
  | 11 => ⟨S_, .i32⟩
  | 12 => ⟨S16x4x512x1024, .f32⟩
  | 13 => ⟨S_, .i32⟩
  | 14 => ⟨S_, .i32⟩
  | 15 => ⟨S4x16x512x1024, .f32⟩
  | 16 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_c_4 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev main_v22_3 : Ref sig .tc := ⟨.hbm, 48, rfl⟩
abbrev main_v22_4 : Ref sig .tc := ⟨.hbm, 49, rfl⟩
abbrev main_v22_5 : Ref sig .tc := ⟨.hbm, 50, rfl⟩
abbrev main_v22_6 : Ref sig .tc := ⟨.hbm, 51, rfl⟩
abbrev main_v22_7 : Ref sig .tc := ⟨.hbm, 52, rfl⟩
abbrev main_v22_8 : Ref sig .tc := ⟨.hbm, 53, rfl⟩
abbrev main_v22_9 : Ref sig .tc := ⟨.hbm, 54, rfl⟩
abbrev main_v22_10 : Ref sig .tc := ⟨.hbm, 55, rfl⟩
abbrev main_while0c_c_15 : Ref sig .tc := ⟨.hbm, 56, rfl⟩
abbrev main_while0c_v25 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_c_1 : Ref sig .tc := ⟨.hbm, 60, rfl⟩
abbrev main_while0b_call1_v0 : Ref sig .tc := ⟨.hbm, 61, rfl⟩
abbrev main_while0b_v25 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_v0 : Ref sig .tc := ⟨.hbm, 66, rfl⟩
abbrev main_while0b_v26 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_v0 : Ref sig .tc := ⟨.hbm, 71, rfl⟩
abbrev main_while0b_v27 : Ref sig .tc := ⟨.hbm, 72, rfl⟩
abbrev main_while0b_v28 : Ref sig .tc := ⟨.hbm, 73, rfl⟩
abbrev main_while0b_v29 : Ref sig .tc := ⟨.hbm, 74, rfl⟩
abbrev main_while0b_v30 : Ref sig .tc := ⟨.hbm, 75, rfl⟩
abbrev main_while0b_v31 : Ref sig .tc := ⟨.hbm, 76, rfl⟩
abbrev main_while0b_v32 : Ref sig .tc := ⟨.hbm, 77, rfl⟩
abbrev main_while0b_v33 : Ref sig .tc := ⟨.hbm, 78, rfl⟩
abbrev main_while0b_cst_15 : Ref sig .tc := ⟨.hbm, 79, rfl⟩
abbrev main_while0b_call4_v0 : Ref sig .tc := ⟨.hbm, 80, rfl⟩
abbrev main_while0b_call4_v1 : Ref sig .tc := ⟨.hbm, 81, rfl⟩
abbrev main_while0b_call4_v2 : Ref sig .tc := ⟨.hbm, 82, rfl⟩
abbrev main_while0b_v34 : Ref sig .tc := ⟨.hbm, 83, rfl⟩
abbrev main_while0b_cst_16 : Ref sig .tc := ⟨.hbm, 84, rfl⟩
abbrev main_while0b_v35 : Ref sig .tc := ⟨.hbm, 85, rfl⟩
abbrev main_while0b_cst_17 : Ref sig .tc := ⟨.hbm, 86, rfl⟩
abbrev main_while0b_v36 : Ref sig .tc := ⟨.hbm, 87, rfl⟩
abbrev main_while0b_v37 : Ref sig .tc := ⟨.hbm, 88, rfl⟩
abbrev main_while0b_v38 : Ref sig .tc := ⟨.hbm, 89, rfl⟩
abbrev main_while0b_v39 : Ref sig .tc := ⟨.hbm, 90, rfl⟩
abbrev main_while0b_v40 : Ref sig .tc := ⟨.hbm, 91, rfl⟩
abbrev main_while0b_v41 : Ref sig .tc := ⟨.hbm, 92, rfl⟩
abbrev main_while0b_cst_18 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_cst_19 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_cst_20 : Ref sig .tc := ⟨.hbm, 104, rfl⟩
abbrev main_while0b_v51 : Ref sig .tc := ⟨.hbm, 105, rfl⟩
abbrev main_while0b_v52 : Ref sig .tc := ⟨.hbm, 106, rfl⟩
abbrev main_while0b_v53 : Ref sig .tc := ⟨.hbm, 107, rfl⟩
abbrev main_while0b_v54 : Ref sig .tc := ⟨.hbm, 108, rfl⟩
abbrev main_while0b_v55 : Ref sig .tc := ⟨.hbm, 109, rfl⟩
abbrev main_while0b_v56 : Ref sig .tc := ⟨.hbm, 110, rfl⟩
abbrev main_while0b_v57 : Ref sig .tc := ⟨.hbm, 111, rfl⟩
abbrev main_while0b_cst_21 : Ref sig .tc := ⟨.hbm, 112, rfl⟩
abbrev main_while0b_v58 : Ref sig .tc := ⟨.hbm, 113, rfl⟩
abbrev main_while0b_v59 : Ref sig .tc := ⟨.hbm, 114, rfl⟩
abbrev main_while0b_v60 : Ref sig .tc := ⟨.hbm, 115, rfl⟩
abbrev main_while0b_v61 : Ref sig .tc := ⟨.hbm, 116, rfl⟩
abbrev main_while0b_cst_22 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_v65 : Ref sig .tc := ⟨.hbm, 121, rfl⟩
abbrev main_while0b_cst_23 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_cst_24 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_v74 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_call7_v0 : Ref sig .tc := ⟨.hbm, 136, rfl⟩
abbrev main_while0b_call7_c : Ref sig .tc := ⟨.hbm, 137, rfl⟩
abbrev main_while0b_call7_c_0 : Ref sig .tc := ⟨.hbm, 138, rfl⟩
abbrev main_while0b_call7_c_1 : Ref sig .tc := ⟨.hbm, 139, rfl⟩
abbrev main_while0b_v78 : Ref sig .tc := ⟨.hbm, 140, rfl⟩
abbrev main_while0b_c_25 : Ref sig .tc := ⟨.hbm, 141, rfl⟩
abbrev main_while0b_v79 : Ref sig .tc := ⟨.hbm, 142, rfl⟩
abbrev main_v23 : Ref sig .tc := ⟨.hbm, 143, rfl⟩
abbrev main_v24 : Ref sig .tc := ⟨.hbm, 144, rfl⟩

abbrev nD : Nat := 1
abbrev τ : Topo := Topo.v7x

variable {F : FTy → Type} [FloatOps F]

abbrev main_while0_count : Scf.Loop 32 := ⟨0#32, 16#32, 1#32⟩
-- ==== Proof.Head.lean ====
module

public import proofs.«01_k».proof.Proof.Gen.KernelIdeal.Frame
public import Idealize.ShloMosaic.Lib.Pipeline.ValueKit
public import Idealize.ShloMosaic.Lib.Pointwise

/-! What one head of the attention body computes, as one definition for every head `h`.

The kernel's text repeats the sixteen heads one after the other. Here the head's number is an argument, so that
everything about a head is proved once. -/

@[expose] public section

set_option maxRecDepth 65536

noncomputable section
open Idealize.ShloMosaic Idealize.SL.Sem

namespace Cert.KernelIdeal.Head
open Cert.KernelIdeal Cert.KernelIdeal.Gen

variable {F : FTy → Type} [FloatOps F] [Named F]

/-- Head `h`'s thirty-two rows lie in the segment's five hundred and twelve. -/
theorem slab_slices : ∀ h : Fin 16, S512x1024.Slices ![32 * h.val, 0] S32x1024 := by decide
/-- Column block `j` of sixty-four lies in a row of 1024. -/
theorem cut_slices : ∀ j : Fin 16, S32x1024.Slices ![0, 64 * j.val] S32x64 := by decide
/-- Row block `j` of thirty-two lies in a head's five hundred and twelve rows. -/
theorem row_slices : ∀ j : Fin 16, S512x64.Slices ![32 * j.val, 0] S32x64 := by decide
/-- Head `h`'s gate lies in the array of gates. -/
theorem gate_slices : ∀ h : Fin 16, S16x1x64.Slices ![h.val, 0, 0] S1x1x64 := by decide
/-- Head `h`'s block of the memory lies in the memory. -/
theorem mem_inb : ∀ h : Fin 16, ∀ a, (![h.val, 0, 0] : Fin 3 → Nat) a + S1x64x128.size a ≤ S16x64x128.size a := by decide
/-- Head `h`'s rows of the output lie in the output. -/
theorem out_inb : ∀ h : Fin 16, ∀ a, (![32 * h.val, 0] : Fin 2 → Nat) a + S32x1024.size a ≤ S512x1024.size a := by decide

/-- A head's thirty-two rows laid out anew: the sixteen column blocks one below the other. -/
def tile (h : Fin 16) (v : FVec F S512x1024 .bf16) : FVec F S512x64 .bf16 :=
  concatenate S512x64 0 (List.ofFn fun j : Fin 16 => (⟨S32x64, extractStridedSlice S32x64 ![0, 64 * j.val]
    (extractStridedSlice S32x1024 ![32 * h.val, 0] v (slab_slices h)) (cut_slices j)⟩ : (s : Shape) × (s.Idx → F .bf16)))
    concatenates_S32x64_S32x64_S32x64_S32x64_S32x64_S32x64_S32x64_S32x64_S32x64_S32x64_S32x64_S32x64_S32x64_S32x64_S32x64_S32x64_S512x64_d0

/-- The reverse: sixteen row blocks of a head laid side by side. -/
def untile (a : FVec F S512x64 .f32) : FVec F S32x1024 .f32 :=
  concatenate S32x1024 1 (List.ofFn fun j : Fin 16 => (⟨S32x64, extractStridedSlice S32x64 ![32 * j.val, 0] a
    (row_slices j)⟩ : (s : Shape) × (s.Idx → F .f32)))
    concatenates_S32x64_S32x64_S32x64_S32x64_S32x64_S32x64_S32x64_S32x64_S32x64_S32x64_S32x64_S32x64_S32x64_S32x64_S32x64_S32x64_S32x1024_d1

/-- Values with sixty-four columns of ones on their right. -/
def withOnes (v : FVec F S512x64 .bf16) : FVec F S512x128 .bf16 :=
  concatenate S512x128 1 [⟨S512x64, v⟩, ⟨S512x64, broadcast S512x64 (Scalar.ofBits .bf16 0x3F80#16)⟩]
    concatenates_S512x64_S512x64_S512x128_d1

/-- Which entries of the score matrix are masked. -/
def masked : IVec S512x512 1 :=
  k0_pay13 (iota .tc S512x512 32 [1] iota_S512x512_d1_w32)
    (k0_pay11 (iota .tc S512x512 32 [0] iota_S512x512_d0_w32) k0_pay8 k0_pay9 k0_pay10)
    (k0_pay12 (iota .tc S512x512 32 [1] iota_S512x512_d1_w32)) 16#32

/-- The exponentials of the scores, zero where masked. -/
def weights (q k : FVec F S512x64 .bf16) : FVec F S512x512 .bf16 :=
  select masked (broadcast S512x512 (Scalar.ofBits .bf16 0x0000#16))
    (truncf .bf16 (exp2 (matmul dot_S512x64_S512x64_S512x512_1_1_0_0_n_n none q k (constant S512x512 .f32 0x00000000#32)))
      bitsLt_bf16_f32)

/-- The queries' feature map. -/
def featQ (q : FVec F S512x64 .bf16) : FVec F S512x64 .bf16 :=
  select (cmpf .ogt q (broadcast S512x64 (Scalar.ofBits .bf16 0x0000#16)))
    (addf (mulf q (broadcast S512x64 (Named.named κ "inv_q_scale" 0x40B1#16))) (broadcast S512x64 (Scalar.ofBits .bf16 0x3F80#16)))
    (exp2 (mulf q (broadcast S512x64 (Scalar.ofBits .bf16 0x4100#16))))

/-- The keys' feature map. -/
def featK (k : FVec F S512x64 .bf16) : FVec F S512x64 .bf16 :=
  select (cmpf .ogt k (broadcast S512x64 (Scalar.ofBits .bf16 0x0000#16)))
    (addf k (broadcast S512x64 (Scalar.ofBits .bf16 0x3F80#16))) (exp k)

/-- Numerators and denominators of the attention within the segment. -/
def localSums (q k v : FVec F S512x64 .bf16) : FVec F S512x128 .f32 :=
  matmul dot_S512x512_S512x128_S512x128_1_0_0_1_n_n none (weights q k) (withOnes v) (constant S512x128 .f32 0x00000000#32)

/-- Numerators and denominators of what is read from the memory. -/
def memSums (q : FVec F S512x64 .bf16) (x : Vec F S1x64x128 .f32) : FVec F S512x128 .f32 :=
  matmul dot_S512x64_S64x128_S512x128_1_0_0_1_n_n none (featQ q)
    (truncf .bf16 (shapeCast S64x128 x shapeCasts_S1x64x128_S64x128) bitsLt_bf16_f32) (constant S512x128 .f32 0x00000000#32)

/-- The left half of the columns divided by the right half. -/
def quotient (a : FVec F S512x128 .f32) : FVec F S512x64 .f32 :=
  divf (extractStridedSlice S512x64 ![0, 0] a slices_S512x128_o0_0_S512x64)
    (extractStridedSlice S512x64 ![0, 64] a slices_S512x128_o0_64_S512x64)

/-- Head `h`'s gate as a row. -/
def gateRow (h : Fin 16) (g : FVec F S16x1x64 .f32) : FVec F S1x64 .f32 :=
  shapeCast S1x64 (extractStridedSlice S1x1x64 ![h.val, 0, 0] g (gate_slices h)) shapeCasts_S1x1x64_S1x64

/-- The head's attention: the gate's mixture of the memory's and the segment's. -/
def mix (g : FVec F S1x64 .f32) (q k v : FVec F S512x64 .bf16) (x : Vec F S1x64x128 .f32) : FVec F S512x64 .f32 :=
  addf (mulf (broadcastTo S512x64 g broadcasts_S1x64_S512x64) (quotient (memSums q x)))
    (mulf (broadcastTo S512x64 (subf (broadcast S1x64 (Scalar.ofBits .f32 0x3F800000#32)) g) broadcasts_S1x64_S512x64)
      (quotient (localSums q k v)))

/-- The head's thirty-two rows of the array that the last product takes. -/
def rows (g : FVec F S1x64 .f32) (q k v : FVec F S512x64 .bf16) (x : Vec F S1x64x128 .f32) : FVec F S32x1024 .bf16 :=
  shapeCast S32x1024 (truncf .bf16 (untile (mix g q k v x)) bitsLt_bf16_f32) shapeCasts_S32x1024_S32x1024

/-- The head's memory after the segment. -/
def next (k v : FVec F S512x64 .bf16) (x : Vec F S1x64x128 .f32) : FVec F S1x64x128 .f32 :=
  shapeCast S1x64x128 (addf (shapeCast S64x128 x shapeCasts_S1x64x128_S64x128)
    (matmul dot_S512x64_S512x128_S64x128_0_0_1_1_n_n none (featK k) (withOnes v) (constant S64x128 .f32 0x00000000#32)))
    shapeCasts_S64x128_S1x64x128

/-- What the body stores into the memory for head `h`. -/
def memPiece (x0 : Vec F S1x512x1024 .f32) (x2 x3 : Vec F S1024x1024 .bf16) (X : Fin 16 → Vec F S1x64x128 .f32) (h : Fin 16) :
    View.Piece (Elt F) S16x64x128 .f32 :=
  ⟨Rect.unit ![h.val, 0, 0] S1x64x128.size (mem_inb h), next (tile h (k0_pay6 x0 x2)) (tile h (k0_pay7 x0 x3)) (X h)⟩

/-- What the body stores for head `h` into the array that the last product takes. -/
def outPiece (x0 : Vec F S1x512x1024 .f32) (x1 : Vec F S1024x1024 .f32) (x2 x3 : Vec F S1024x1024 .bf16)
    (x5 : Vec F S16x1x64 .f32) (X : Fin 16 → Vec F S1x64x128 .f32) (h : Fin 16) : View.Piece (Elt F) S512x1024 .bf16 :=
  ⟨Rect.unit ![32 * h.val, 0] S32x1024.size (out_inb h), rows (gateRow h (k0_pay15 x5)) (tile h (k0_pay5 x0 x1))
    (tile h (k0_pay6 x0 x2)) (tile h (k0_pay7 x0 x3)) (X h)⟩

/-- The sixteen stores, the last one first. -/
def heads {α : Type} (f : Fin 16 → α) : List α :=
  [f 15, f 14, f 13, f 12, f 11, f 10, f 9, f 8, f 7, f 6, f 5, f 4, f 3, f 2, f 1, f 0]

end Cert.KernelIdeal.Head
-- ==== Proof.Body.lean ====
module

public import proofs.«01_k».proof.Proof.Head

/-! The pieces that the body's run stores, as the sixteen heads of `Head.lean`. -/

@[expose] public section

set_option maxRecDepth 65536

noncomputable section
open Idealize.ShloMosaic Idealize.SL.Sem

namespace Cert.KernelIdeal.Head
open Cert.KernelIdeal Cert.KernelIdeal.Gen

variable {F : FTy → Type} [FloatOps F] [Named F]
variable (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S16x1x64 .f32) (harg7 : arg7.IsWhole) (arg8 : Memref sig .tc .vmem S16x64x128 .f32) (harg8 : arg8.IsWhole) (arg9 : Memref sig .tc .vmem S1x512x1024 .f32) (harg9 : arg9.IsWhole) (arg10 : Memref sig .tc .vmem S16x64x128 .f32) (harg10 : arg10.IsWhole) (arg11 : Memref sig .tc .vmem S512x1024 .bf16) (harg11 : arg11.IsWhole)
  (x0 : Vec F S1x512x1024 .f32) (x1 : Vec F S1024x1024 .f32) (x2 : Vec F S1024x1024 .bf16) (x3 : Vec F S1024x1024 .bf16) (x4 : Vec F S1024x1024 .bf16) (x5 : Vec F S16x1x64 .f32) (x6 : Vec F S16x64x128 .f32) (xs0 : Vec F S16x64x128 .f32)

/-- The load of a whole block of tokens. -/
def rdX : Vec F S1x512x1024 .f32 :=
  View.readAt (Elt F) arg2.view (Rect.unit ![0, 0, 0] S1x512x1024.size inb_S1x512x1024_S1x512x1024_0_0_0).toLoadRect (harg2.unread x0)
/-- The load of a whole matrix. -/
def rdW {e : EltTy} (a : Memref sig .tc .vmem S1024x1024 e) (ha : a.IsWhole) (x : Vec F S1024x1024 e) : Vec F S1024x1024 e :=
  View.readAt (Elt F) a.view (Rect.unit ![0, 0] S1024x1024.size inb_S1024x1024_S1024x1024_0_0).toLoadRect (ha.unread x)
/-- The load of all the gates' parameters. -/
def rdG : Vec F S16x1x64 .f32 :=
  View.readAt (Elt F) arg7.view (Rect.unit ![0, 0, 0] S16x1x64.size inb_S16x1x64_S16x1x64_0_0_0).toLoadRect (harg7.unread x5)
/-- The load of the whole initial memory. -/
def rdM : Vec F S16x64x128 .f32 :=
  View.readAt (Elt F) arg8.view (Rect.unit ![0, 0, 0] S16x64x128.size inb_S16x64x128_S16x64x128_0_0_0).toLoadRect (harg8.unread x6)
/-- The loads of the heads' memories from contents left by the point before. -/
def rdS (h : Fin 16) : Vec F S1x64x128 .f32 :=
  View.readAt (Elt F) arg10.view (Rect.unit (s := S16x64x128) ![h.val, 0, 0] S1x64x128.size (mem_inb h)).toLoadRect (harg10.unread xs0)

/-- The store of the initial memory. -/
def initPiece : View.Piece (Elt F) S16x64x128 .f32 :=
  ⟨Rect.unit ![0, 0, 0] S16x64x128.size inb_S16x64x128_S16x64x128_0_0_0, k0_pay3 x6⟩
/-- The first `n` stores into the memory at a point that starts a sequence, the last one first: the initial memory,
then for each head the block computed from what the stores before it leave. -/
def storesA : (n : ℕ) → n ≤ 16 → List (View.Piece (Elt F) S16x64x128 .f32)
  | 0, _ => [initPiece (rdM arg8 harg8 x6)]
  | n + 1, h => memPiece (rdX arg2 harg2 x0) (rdW arg4 harg4 x2) (rdW arg5 harg5 x3)
      (fun k => View.readCov arg10.view (storesA n (Nat.le_of_succ_le h))
        (Rect.unit (s := S16x64x128) ![k.val, 0, 0] S1x64x128.size (mem_inb k)).toLoadRect) ⟨n, h⟩ :: storesA n (Nat.le_of_succ_le h)

/-- The loads of the heads' memories at a point that starts a sequence. -/
def rdA (h : Fin 16) : Vec F S1x64x128 .f32 :=
  View.readCov arg10.view (storesA arg2 harg2 arg4 harg4 arg5 harg5 arg8 harg8 arg10 x0 x2 x3 x6 h.val h.isLt.le)
    (Rect.unit (s := S16x64x128) ![h.val, 0, 0] S1x64x128.size (mem_inb h)).toLoadRect

/-- A point that continues leaves the memory with one store for each head. -/
theorem memB (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0).2.1
      = heads (memPiece (rdX arg2 harg2 x0) (rdW arg4 harg4 x2) (rdW arg5 harg5 x3) (rdS arg10 harg10 xs0)) := by
  sl_kernel_rfl

/-- A point that starts a sequence stores the initial memory, then one block for each head. -/
theorem memA (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).2.1
      = storesA arg2 harg2 arg4 harg4 arg5 harg5 arg8 harg8 arg10 x0 x2 x3 x6 16 (Nat.le_refl 16) := by
  sl_kernel_rfl

/-- What is stored as the block of results: the product of the heads' rows with the last matrix. -/
def resPiece (L : List (View.Piece (Elt F) S512x1024 .bf16)) : View.Piece (Elt F) S1x512x1024 .f32 :=
  ⟨Rect.unit ![0, 0, 0] S1x512x1024.size inb_S1x512x1024_S1x512x1024_0_0_0,
    k0_pay2 (View.readCov arg11.view L (Rect.unit ![0, 0] S512x1024.size inb_S512x1024_S512x1024_0_0).toLoadRect) (rdW arg6 harg6 x4)⟩

/-- The block of results of a point that continues. -/
theorem resB (hc0 : ¬cond0_0 i) :
    (kernelRun0_B c i arg2 harg2 arg3 harg3 arg4 harg4 arg5 harg5 arg6 harg6 arg7 harg7 arg8 harg8 arg9 harg9 arg10 harg10 arg11 harg11 hc0 x0 x1 x2 x3 x4 x5 x6 xs0).1
      = [resPiece arg6 harg6 arg11 x4 (heads (outPiece (rdX arg2 harg2 x0) (rdW arg3 harg3 x1) (rdW arg4 harg4 x2) (rdW arg5 harg5 x3)
          (rdG arg7 harg7 x5) (rdS arg10 harg10 xs0)))] := by
  sl_kernel_rfl

/-- The block of results of a point that starts a sequence. -/
theorem resA (hc0 : cond0_0 i) :
    (kernelRun0_A c i arg2 harg2 arg3 harg3 arg4 harg4 arg5 harg5 arg6 harg6 arg7 harg7 arg8 harg8 arg9 harg9 arg10 harg10 arg11 harg11 hc0 x0 x1 x2 x3 x4 x5 x6).1
      = [resPiece arg6 harg6 arg11 x4 (heads (outPiece (rdX arg2 harg2 x0) (rdW arg3 harg3 x1) (rdW arg4 harg4 x2) (rdW arg5 harg5 x3)
          (rdG arg7 harg7 x5) (rdA arg2 harg2 arg4 harg4 arg5 harg5 arg8 harg8 arg10 x0 x2 x3 x6)))] := by
  sl_kernel_rfl

end Cert.KernelIdeal.Head
-- ==== Proof.HeadValue.lean ====
module

public import proofs.«01_k».proof.Proof.Head

/-! What the definitions of `Head.lean` are at an index, over the extended reals. -/

@[expose] public section

set_option maxRecDepth 65536

noncomputable section
open Idealize.ShloMosaic Idealize.SL.Sem

namespace Cert.KernelIdeal.Head
open Cert.KernelIdeal Cert.KernelIdeal.Gen

/-- The first named constant. -/
theorem qScale : Named.named (F := Ideal) κ "q_scale" (φ := .f32) 0x3E38AA3B#32 = (((8 * Real.log 2)⁻¹ : ℝ) : EReal) :=
  IdealRules.named_const.ideal_named_scalar _ _ _ _ rfl

/-- The second named constant. -/
theorem invScale : Named.named (F := Ideal) κ "inv_q_scale" (φ := .bf16) 0x40B1#16 = ((8 * Real.log 2 : ℝ) : EReal) :=
  IdealRules.named_const.ideal_named_scalar _ _ _ _ rfl

/-- The word of eight. -/
theorem eight : Ideal.ofBits .bf16 0x4100#16 = ((8 : ℝ) : EReal) := by
  simp [Ideal.ofBits, Ideal.ieee, -EReal.coe_mul]; norm_num

/-- An entry of a head's tile. -/
theorem tile_apply (h : Fin 16) (v : FVec Ideal S512x1024 .bf16) (a : Fin 512) (d : Fin 64) :
    tile h v (ix2 a d) = v (ix2 ⟨32 * h.val + a.val % 32, by omega⟩ ⟨64 * (a.val / 32) + d.val, by omega⟩) := by
  unfold tile
  refine (concatenate_ofFn_apply (t := S512x64) (s₁ := S32x64) 0 _ _ rfl 32 rfl (ix2 a d) ⟨a.val / 32, by omega⟩ rfl
    (ix2 ⟨a.val % 32, by omega⟩ d) rfl ?_).trans ?_
  rotate_left
  · pointwise
  · intro b hb
    fin_cases b
    · exact absurd rfl hb
    · rfl

/-- An entry of a tile laid out as the head's rows. -/
theorem untile_apply (v : FVec Ideal S512x64 .f32) (r : Fin 32) (n : Fin 1024) :
    untile v (ix2 r n) = v (ix2 ⟨32 * (n.val / 64) + r.val, by omega⟩ ⟨n.val % 64, by omega⟩) := by
  unfold untile
  refine (concatenate_ofFn_apply (t := S32x1024) (s₁ := S32x64) 1 _ _ rfl 64 rfl (ix2 r n) ⟨n.val / 64, by omega⟩ rfl
    (ix2 r ⟨n.val % 64, by omega⟩) rfl ?_).trans ?_
  rotate_left
  · pointwise
  · intro b hb
    fin_cases b
    · rfl
    · exact absurd rfl hb

/-- The left columns are the values. -/
theorem withOnes_left (v : FVec Ideal S512x64 .bf16) (a : Fin 512) (e : Fin 64) :
    withOnes v (ix2 a ⟨e.val, by omega⟩) = v (ix2 a e) := by
  pointwise [withOnes]

/-- The right columns are ones. -/
theorem withOnes_right (v : FVec Ideal S512x64 .bf16) (a : Fin 512) (e : Fin 64) :
    withOnes v (ix2 a ⟨64 + e.val, by omega⟩) = 1 := by
  pointwise [withOnes]

/-- An entry of the weights. -/
theorem weights_apply (q k : FVec Ideal S512x64 .bf16) (a b : Fin 512) :
    weights q k (ix2 a b) = if masked (ix2 a b) = 1#1 then 0 else Ideal.exp2 (∑ d : Fin 64, q (ix2 a d) * k (ix2 b d)) := by
  pointwise [weights]
  rfl

/-- An entry of the features of the queries. -/
theorem featQ_apply (q : FVec Ideal S512x64 .bf16) (a : Fin 512) (d : Fin 64) :
    featQ q (ix2 a d) = if 0 < q (ix2 a d) then q (ix2 a d) * ((8 * Real.log 2 : ℝ) : EReal) + 1
      else Ideal.exp2 (q (ix2 a d) * ((8 : ℝ) : EReal)) := by
  pointwise [featQ]
  rw [invScale, eight]
  rfl

/-- An entry of the features of the keys. -/
theorem featK_apply (k : FVec Ideal S512x64 .bf16) (a : Fin 512) (d : Fin 64) :
    featK k (ix2 a d) = if 0 < k (ix2 a d) then k (ix2 a d) + 1 else Ideal.exp (k (ix2 a d)) := by
  pointwise [featK]

/-- An entry of the sums over the segment. -/
theorem localSums_apply (q k v : FVec Ideal S512x64 .bf16) (a : Fin 512) (e : Fin 128) :
    localSums q k v (ix2 a e) = ∑ b : Fin 512, weights q k (ix2 a b) * withOnes v (ix2 b e) := by
  pointwise [localSums]

/-- An entry of the sums over the memory. -/
theorem memSums_apply (q : FVec Ideal S512x64 .bf16) (x : Vec Ideal S1x64x128 .f32) (a : Fin 512) (e : Fin 128) :
    memSums q x (ix2 a e) = ∑ d : Fin 64, featQ q (ix2 a d) * x (ix3 0 d e) := by
  pointwise [memSums]

/-- An entry of the quotient of the left columns by the right ones. -/
theorem quotient_apply (s : FVec Ideal S512x128 .f32) (a : Fin 512) (e : Fin 64) :
    quotient s (ix2 a e) = Ideal.div (s (ix2 a ⟨e.val, by omega⟩)) (s (ix2 a ⟨64 + e.val, by omega⟩)) := by
  pointwise [quotient]

/-- An entry of the gate. -/
theorem gateRow_apply (h : Fin 16) (g : Vec Ideal S16x1x64 .f32) (e : Fin 64) :
    gateRow h (k0_pay15 g) (ix2 0 e) = Ideal.div 1 (1 + Ideal.exp (0 - g (ix3 h 0 e))) := by
  pointwise [gateRow, k0_pay15]

/-- An entry of the gated mean of the two quotients. -/
theorem mix_apply (g : FVec Ideal S1x64 .f32) (q k v : FVec Ideal S512x64 .bf16) (x : Vec Ideal S1x64x128 .f32) (a : Fin 512) (e : Fin 64) :
    mix g q k v x (ix2 a e) = g (ix2 0 e) * quotient (memSums q x) (ix2 a e) + (1 - g (ix2 0 e)) * quotient (localSums q k v) (ix2 a e) := by
  pointwise [mix]

/-- An entry of the head's rows. -/
theorem rows_apply (g : FVec Ideal S1x64 .f32) (q k v : FVec Ideal S512x64 .bf16) (x : Vec Ideal S1x64x128 .f32) (r : Fin 32) (n : Fin 1024) :
    rows g q k v x (ix2 r n) = mix g q k v x (ix2 ⟨32 * (n.val / 64) + r.val, by omega⟩ ⟨n.val % 64, by omega⟩) := by
  rw [← untile_apply (mix g q k v x)]
  pointwise [rows]

/-- An entry of the next memory. -/
theorem next_apply (k v : FVec Ideal S512x64 .bf16) (x : Vec Ideal S1x64x128 .f32) (d : Fin 64) (e : Fin 128) :
    next k v x (ix3 0 d e) = x (ix3 0 d e) + ∑ a : Fin 512, featK k (ix2 a d) * withOnes v (ix2 a e) := by
  pointwise [next]

/-- An entry of the scaled queries. -/
theorem pay5_apply (x : Vec Ideal S1x512x1024 .f32) (w : Vec Ideal S1024x1024 .f32) (r : Fin 512) (n : Fin 1024) :
    k0_pay5 x w (ix2 r n) = ∑ k : Fin 1024, x (ix3 0 r k) * (w (ix2 k n) * (((8 * Real.log 2)⁻¹ : ℝ) : EReal)) := by
  pointwise [k0_pay5, k0_pay4]
  simp only [qScale]

/-- An entry of the keys. -/
theorem pay6_apply (x : Vec Ideal S1x512x1024 .f32) (w : Vec Ideal S1024x1024 .bf16) (r : Fin 512) (n : Fin 1024) :
    k0_pay6 x w (ix2 r n) = ∑ k : Fin 1024, x (ix3 0 r k) * w (ix2 k n) := by
  pointwise [k0_pay6, k0_pay4]

/-- An entry of the values. -/
theorem pay7_apply (x : Vec Ideal S1x512x1024 .f32) (w : Vec Ideal S1024x1024 .bf16) (r : Fin 512) (n : Fin 1024) :
    k0_pay7 x w (ix2 r n) = ∑ k : Fin 1024, x (ix3 0 r k) * w (ix2 k n) := by
  pointwise [k0_pay7, k0_pay4]

/-- An entry of the last product. -/
theorem pay2_apply (o : Vec Ideal S512x1024 .bf16) (w : Vec Ideal S1024x1024 .bf16) (r : Fin 512) (n : Fin 1024) :
    k0_pay2 o w (ix3 0 r n) = ∑ k : Fin 1024, o (ix2 r k) * w (ix2 k n) := by
  pointwise [k0_pay2]

/-- The first memory is taken as it is. -/
theorem pay3_eq (x : Vec Ideal S16x64x128 .f32) : k0_pay3 x = x := by
  funext j; idx_vars j; pointwise [k0_pay3]

/-- The position of row `a` of a head's matrices in the head's segment. -/
def pos (a : Fin 512) : ℕ := (a.val % 32) * 16 + a.val / 32

/-- A position lies in the segment. -/
theorem pos_lt (a : Fin 512) : pos a < 512 := by unfold pos; omega

/-- The word that the kernel computes for the row's position. -/
theorem rowPos (a b : Fin 512) : k0_pay11 (iota .tc S512x512 32 [0] iota_S512x512_d0_w32) k0_pay8 k0_pay9 k0_pay10 (ix2 a b)
    = BitVec.ofNat 32 (pos a) := by
  unfold k0_pay11 k0_pay8 k0_pay9 k0_pay10 k0_pay8
  pointwise!
  revert a
  decide +kernel

/-- The word that the kernel computes for the column's position, in its two parts. -/
theorem colPos (a b : Fin 512) : k0_pay12 (iota .tc S512x512 32 [1] iota_S512x512_d1_w32) (ix2 a b)
    = BitVec.ofNat 32 (b.val % 32) := by
  unfold k0_pay12
  pointwise!
  revert b
  decide +kernel

/-- An entry is masked where its column comes later than its row. -/
theorem masked_apply (a b : Fin 512) : masked (ix2 a b) = 1#1 ↔ pos a < pos b := by
  have key : masked (ix2 a b) = IntOp.cmpi .sgt (BitVec.ofNat 32 (pos b)) (BitVec.ofNat 32 (pos a)) := by
    unfold masked k0_pay13
    pointwise!
    rw [rowPos, colPos]
    congr 1
    revert b
    decide +kernel
  have ha := pos_lt a
  have hb := pos_lt b
  rw [key]
  generalize pos a = p at ha ⊢
  generalize pos b = q at hb ⊢
  simp only [IntOp.cmpi]
  rw [show ∀ c : Bool, BitVec.ofBool c = 1#1 ↔ c = true by decide, BitVec.slt_iff_toInt_lt,
    BitVec.toInt_eq_toNat_of_lt (by rw [BitVec.toNat_ofNat]; omega),
    BitVec.toInt_eq_toNat_of_lt (by rw [BitVec.toNat_ofNat]; omega), BitVec.toNat_ofNat, BitVec.toNat_ofNat]
  omega

end Cert.KernelIdeal.Head
-- ==== Proof.Read.lean ====
module

public import proofs.«01_k».proof.Proof.Body
public import proofs.«01_k».proof.Proof.HeadValue

/-! What one run of the body leaves, as functions of its blocks and of the memory before it. -/

@[expose] public section

set_option maxRecDepth 65536

noncomputable section
open Idealize.ShloMosaic Idealize.SL.Sem

namespace Cert.KernelIdeal.Head
open Cert.KernelIdeal Cert.KernelIdeal.Gen

variable {F : FTy → Type} [FloatOps F] [Named F]

/-- Head `h` of a memory. -/
def headOf (S : Vec F S16x64x128 .f32) (h : Fin 16) : Vec F S1x64x128 .f32 := fun j => S (ix3 h (j 1) (j 2))

/-- The memory after a segment, from the segment's block of tokens, the two matrices and the memory before. -/
def memNext (x0 : Vec F S1x512x1024 .f32) (x2 x3 : Vec F S1024x1024 .bf16) (S : Vec F S16x64x128 .f32) : Vec F S16x64x128 .f32 :=
  fun j => next (tile (j 0) (k0_pay6 x0 x2)) (tile (j 0) (k0_pay7 x0 x3)) (headOf S (j 0)) (ix3 0 (j 1) (j 2))

/-- The head whose rows hold row `r`. -/
def headIdx (r : Fin 512) : Fin 16 := ⟨r.val / 32, by omega⟩

/-- Head `h`'s rows of the array that the last product takes. -/
def rowsAt (x0 : Vec F S1x512x1024 .f32) (x1 : Vec F S1024x1024 .f32) (x2 x3 : Vec F S1024x1024 .bf16)
    (x5 : Vec F S16x1x64 .f32) (S : Vec F S16x64x128 .f32) (h : Fin 16) : Vec F S32x1024 .bf16 :=
  rows (gateRow h (k0_pay15 x5)) (tile h (k0_pay5 x0 x1)) (tile h (k0_pay6 x0 x2)) (tile h (k0_pay7 x0 x3)) (headOf S h)

/-- The array that the last product takes, all heads. -/
def outRows (x0 : Vec F S1x512x1024 .f32) (x1 : Vec F S1024x1024 .f32) (x2 x3 : Vec F S1024x1024 .bf16)
    (x5 : Vec F S16x1x64 .f32) (S : Vec F S16x64x128 .f32) : Vec F S512x1024 .bf16 :=
  fun j => rowsAt x0 x1 x2 x3 x5 S (headIdx (j 0)) (ix2 ⟨(j 0).val % 32, Nat.mod_lt _ (by decide)⟩ (j 1))

/-- A load of everything reads everything. -/
theorem rdX_eq (a : Memref sig .tc .vmem S1x512x1024 .f32) (ha : a.IsWhole) (x : Vec F S1x512x1024 .f32) : rdX a ha x = x := by
  unfold rdX
  rw [View.readAt_eq_ld, ha.read_unread, View.ld_unit_lit' _ _ (by decide)]

/-- A whole matrix read is the matrix. -/
theorem rdW_eq {e : EltTy} (a : Memref sig .tc .vmem S1024x1024 e) (ha : a.IsWhole) (x : Vec F S1024x1024 e) : rdW a ha x = x := by
  unfold rdW
  rw [View.readAt_eq_ld, ha.read_unread, View.ld_unit_lit' _ _ (by decide)]

/-- The gates read whole are the gates. -/
theorem rdG_eq (a : Memref sig .tc .vmem S16x1x64 .f32) (ha : a.IsWhole) (x : Vec F S16x1x64 .f32) : rdG a ha x = x := by
  unfold rdG
  rw [View.readAt_eq_ld, ha.read_unread, View.ld_unit_lit' _ _ (by decide)]

/-- The memory read whole is the memory. -/
theorem rdM_eq (a : Memref sig .tc .vmem S16x64x128 .f32) (ha : a.IsWhole) (x : Vec F S16x64x128 .f32) : rdM a ha x = x := by
  unfold rdM
  rw [View.readAt_eq_ld, ha.read_unread, View.ld_unit_lit' _ _ (by decide)]

/-- Where a head's entry lies in the memory. -/
theorem memIdx (h : Fin 16) (j : S1x64x128.Idx) :
    (Rect.unit (s := S16x64x128) ![h.val, 0, 0] S1x64x128.size (mem_inb h)).idx j = ix3 h (j 1) (j 2) := by
  funext a
  apply Fin.ext
  rw [Rect.idx_unit_val]
  have h0 : (j 0).val < 1 := (j 0).isLt
  fin_cases a
  · show h.val + (j 0).val = h.val
    omega
  · exact Nat.zero_add _
  · exact Nat.zero_add _

/-- The memory read at a head is that head's. -/
theorem rdS_eq (a : Memref sig .tc .vmem S16x64x128 .f32) (ha : a.IsWhole) (x : Vec F S16x64x128 .f32) : rdS a ha x = headOf x := by
  funext h j
  unfold rdS headOf
  rw [View.readAt_eq_ld, ha.read_unread, View.ld_apply, memIdx]
  rfl

/-- Where a head's entry lies among the rows. -/
theorem outIdx (h : Fin 16) (j : S32x1024.Idx) :
    (Rect.unit (s := S512x1024) ![32 * h.val, 0] S32x1024.size (out_inb h)).idx j
      = ix2 ⟨32 * h.val + (j 0).val, by have : (j 0).val < 32 := (j 0).isLt; omega⟩ (j 1) := by
  funext a
  apply Fin.ext
  rw [Rect.idx_unit_val]
  fin_cases a
  · rfl
  · exact Nat.zero_add _

/-- A member of a list over the heads. -/
theorem mem_heads {α : Type} (f : Fin 16 → α) (p : α) : p ∈ heads f ↔ ∃ h, p = f h := by
  constructor
  · intro hp
    simp only [heads, List.mem_cons, List.not_mem_nil, or_false] at hp
    rcases hp with h | h | h | h | h | h | h | h | h | h | h | h | h | h | h | h <;> exact ⟨_, h⟩
  · rintro ⟨h, rfl⟩
    fin_cases h <;> simp [heads]

/-- One store for each head leaves the memory after the segment. -/
theorem canon_mem (x0 : Vec F S1x512x1024 .f32) (x2 x3 : Vec F S1024x1024 .bf16) (S : Vec F S16x64x128 .f32) :
    View.canon (heads (memPiece x0 x2 x3 (headOf S))) = memNext x0 x2 x3 S := by
  funext y
  refine View.canon_apply_of_pieces (memNext x0 x2 x3 S) _ ?_ y ?_
  · intro p hp x
    obtain ⟨h, rfl⟩ := (mem_heads _ p).1 hp
    have e := memIdx h x
    show next _ _ _ x = memNext x0 x2 x3 S ((Rect.unit (s := S16x64x128) ![h.val, 0, 0] S1x64x128.size (mem_inb h)).idx x)
    rw [e]
    unfold memNext
    have hx : x = ix3 0 (x 1) (x 2) := by
      funext a
      fin_cases a
      · exact Subsingleton.elim (α := Fin 1) _ _
      · rfl
      · rfl
    exact congrArg _ hx
  · refine ⟨_, (mem_heads _ _).2 ⟨y 0, rfl⟩, ?_⟩
    have h1 : (y 1).val < 64 := (y 1).isLt
    have h2 : (y 2).val < 128 := (y 2).isLt
    refine (Rect.mem_set_unit (inb := mem_inb (y 0))).2 fun a => ?_
    fin_cases a
    · exact ⟨Nat.le_refl _, Nat.lt_succ_self _⟩
    · exact ⟨Nat.zero_le _, by show (y 1).val < 0 + 64; omega⟩
    · exact ⟨Nat.zero_le _, by show (y 2).val < 0 + 128; omega⟩

/-- One store for each head leaves the rows of all heads. -/
theorem canon_out (x0 : Vec F S1x512x1024 .f32) (x1 : Vec F S1024x1024 .f32) (x2 x3 : Vec F S1024x1024 .bf16)
    (x5 : Vec F S16x1x64 .f32) (S : Vec F S16x64x128 .f32) :
    View.canon (heads (outPiece x0 x1 x2 x3 x5 (headOf S))) = outRows x0 x1 x2 x3 x5 S := by
  funext y
  refine View.canon_apply_of_pieces (outRows x0 x1 x2 x3 x5 S) _ ?_ y ?_
  · intro p hp x
    obtain ⟨h, rfl⟩ := (mem_heads _ p).1 hp
    have e := outIdx h x
    have hx0 : (x 0).val < 32 := (x 0).isLt
    show rows _ _ _ _ _ x = outRows x0 x1 x2 x3 x5 S ((Rect.unit (s := S512x1024) ![32 * h.val, 0] S32x1024.size (out_inb h)).idx x)
    rw [e]
    have hh : headIdx ⟨32 * h.val + (x 0).val, by omega⟩ = h := by apply Fin.ext; simp only [headIdx]; omega
    refine congr (congrArg (rowsAt x0 x1 x2 x3 x5 S) hh.symm) ?_
    funext a
    fin_cases a
    · apply Fin.ext
      show (x 0).val = (32 * h.val + (x 0).val) % 32
      omega
    · rfl
  · refine ⟨_, (mem_heads _ _).2 ⟨headIdx (y 0), rfl⟩, ?_⟩
    have h1 : (y 1).val < 1024 := (y 1).isLt
    refine (Rect.mem_set_unit (inb := out_inb (headIdx (y 0)))).2 fun a => ?_
    fin_cases a
    · show 32 * ((y 0).val / 32) ≤ (y 0).val ∧ (y 0).val < 32 * ((y 0).val / 32) + 32
      omega
    · exact ⟨Nat.zero_le _, by show (y 1).val < 0 + 1024; omega⟩

section Stores
variable (arg2 : Memref sig .tc .vmem S1x512x1024 .f32) (harg2 : arg2.IsWhole) (arg4 : Memref sig .tc .vmem S1024x1024 .bf16) (harg4 : arg4.IsWhole) (arg5 : Memref sig .tc .vmem S1024x1024 .bf16) (harg5 : arg5.IsWhole) (arg8 : Memref sig .tc .vmem S16x64x128 .f32) (harg8 : arg8.IsWhole) (arg10 : Memref sig .tc .vmem S16x64x128 .f32)
  (x0 : Vec F S1x512x1024 .f32) (x2 : Vec F S1024x1024 .bf16) (x3 : Vec F S1024x1024 .bf16) (x6 : Vec F S16x64x128 .f32)

/-- The first `n` stores leave the memory after the segment in the first `n` heads and the initial memory in the others. -/
theorem canon_stores (hp : k0_pay3 x6 = x6) : ∀ (n : ℕ) (hn : n ≤ 16) (y : S16x64x128.Idx),
    View.canon (storesA arg2 harg2 arg4 harg4 arg5 harg5 arg8 harg8 arg10 x0 x2 x3 x6 n hn) y
      = if (y 0).val < n then memNext x0 x2 x3 x6 y else x6 y
  | 0, _, y => by
    unfold storesA initPiece
    rw [View.canon_cons_unit_lit' _ _ _ (by decide), rdM_eq, hp]
    simp
  | n + 1, hn, y => by
    have ih := canon_stores hp n (Nat.le_of_succ_le hn)
    have hX : (fun k : Fin 16 => View.readCov arg10.view (storesA arg2 harg2 arg4 harg4 arg5 harg5 arg8 harg8 arg10 x0 x2 x3 x6 n (Nat.le_of_succ_le hn))
        (Rect.unit (s := S16x64x128) ![k.val, 0, 0] S1x64x128.size (mem_inb k)).toLoadRect) ⟨n, hn⟩ = headOf x6 ⟨n, hn⟩ := by
      show View.readCov arg10.view _ _ = _
      rw [View.readCov_eq_canon']
      funext j
      have e := memIdx ⟨n, hn⟩ j
      exact (congrArg _ e).trans ((ih _).trans (if_neg (Nat.lt_irrefl n)))
    unfold storesA memPiece
    rw [hX, rdX_eq, rdW_eq, rdW_eq]
    by_cases hy : (y 0).val = n
    · have ey : y = (Rect.unit (s := S16x64x128) ![n, 0, 0] S1x64x128.size (mem_inb ⟨n, hn⟩)).emb (ix3 0 (y 1) (y 2)) := by
        refine Eq.symm ((memIdx ⟨n, hn⟩ _).trans ?_)
        funext a
        fin_cases a
        · exact Fin.ext hy.symm
        · rfl
        · rfl
      have h0 : y 0 = (⟨n, hn⟩ : Fin 16) := Fin.ext hy
      rw [if_pos (by omega)]
      conv_lhs => rw [ey]
      rw [View.canon_cons_emb]
      unfold memNext
      rw [h0]
    · rw [View.canon_cons_of_not_mem, ih]
      · by_cases h : (y 0).val < n
        · rw [if_pos h, if_pos (by omega)]
        · rw [if_neg h, if_neg (by omega)]
      · intro hm
        have h0 : n ≤ (y 0).val ∧ (y 0).val < n + 1 := (Rect.mem_set_unit (inb := mem_inb ⟨n, hn⟩)).1 hm 0
        omega

/-- The loads of the heads' memories at a point that starts a sequence read the initial memory. -/
theorem rdA_eq (hp : k0_pay3 x6 = x6) :
    rdA arg2 harg2 arg4 harg4 arg5 harg5 arg8 harg8 arg10 x0 x2 x3 x6 = headOf x6 := by
  funext h j
  unfold rdA
  rw [View.readCov_eq_canon']
  exact (congrArg _ (memIdx h j)).trans ((canon_stores arg2 harg2 arg4 harg4 arg5 harg5 arg8 harg8 arg10 x0 x2 x3 x6 hp _ _ _).trans
    (if_neg (Nat.lt_irrefl h.val)))

end Stores

section Runs
variable (c : Dev nD) (i : grid0.Coords) (arg2 : Memref sig .tc .vmem S1x512x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S16x1x64 .f32) (harg7 : arg7.IsWhole) (arg8 : Memref sig .tc .vmem S16x64x128 .f32) (harg8 : arg8.IsWhole) (arg9 : Memref sig .tc .vmem S1x512x1024 .f32) (harg9 : arg9.IsWhole) (arg10 : Memref sig .tc .vmem S16x64x128 .f32) (harg10 : arg10.IsWhole) (arg11 : Memref sig .tc .vmem S512x1024 .bf16) (harg11 : arg11.IsWhole)
  (x0 : Vec F S1x512x1024 .f32) (x1 : Vec F S1024x1024 .f32) (x2 : Vec F S1024x1024 .bf16) (x3 : Vec F S1024x1024 .bf16) (x4 : Vec F S1024x1024 .bf16) (x5 : Vec F S16x1x64 .f32) (x6 : Vec F S16x64x128 .f32) (xs0 : Vec F S16x64x128 .f32)

/-- A point that continues leaves the memory after its segment. -/
theorem sout_B (hc0 : ¬cond0_0 i) :
    sout0_B_0 c i arg2 harg2 arg3 harg3 arg4 harg4 arg5 harg5 arg6 harg6 arg7 harg7 arg8 harg8 arg9 harg9 arg10 harg10 arg11 harg11 hc0 x0 x1 x2 x3 x4 x5 x6 xs0
      = memNext x0 x2 x3 xs0 := by
  unfold sout0_B_0
  rw [View.read_writes_junk_eq_canon, memB, rdX_eq, rdW_eq, rdW_eq, rdS_eq, canon_mem]

/-- A point that starts a sequence leaves the memory after its segment, from the initial memory. -/
theorem sout_A (hc0 : cond0_0 i) (hp : k0_pay3 x6 = x6) :
    sout0_A_0 c i arg2 harg2 arg3 harg3 arg4 harg4 arg5 harg5 arg6 harg6 arg7 harg7 arg8 harg8 arg9 harg9 arg10 harg10 arg11 harg11 hc0 x0 x1 x2 x3 x4 x5 x6
      = memNext x0 x2 x3 x6 := by
  unfold sout0_A_0
  rw [View.read_writes_junk_eq_canon, memA]
  funext y
  rw [canon_stores (hp := hp)]
  exact if_pos (y 0).isLt

/-- A point that continues leaves the product of the heads' rows with the last matrix. -/
theorem out_B (hc0 : ¬cond0_0 i) :
    out0_B_7 c i arg2 harg2 arg3 harg3 arg4 harg4 arg5 harg5 arg6 harg6 arg7 harg7 arg8 harg8 arg9 harg9 arg10 harg10 arg11 harg11 hc0 x0 x1 x2 x3 x4 x5 x6 xs0
      = k0_pay2 (outRows x0 x1 x2 x3 x5 xs0) x4 := by
  unfold out0_B_7
  rw [View.read_writes_junk_eq_canon, resB, rdX_eq, rdW_eq, rdW_eq, rdW_eq, rdG_eq, rdS_eq]
  unfold resPiece
  rw [View.canon_cons_unit_lit' _ _ _ (by decide), rdW_eq, View.readCov_eq_canon', canon_out]
  refine congrArg (fun o => k0_pay2 o x4) (View.ld_unit_lit' _ _ (by decide))

/-- The same at a point that starts a sequence, from the initial memory. -/
theorem out_A (hc0 : cond0_0 i) (hp : k0_pay3 x6 = x6) :
    out0_A_7 c i arg2 harg2 arg3 harg3 arg4 harg4 arg5 harg5 arg6 harg6 arg7 harg7 arg8 harg8 arg9 harg9 arg10 harg10 arg11 harg11 hc0 x0 x1 x2 x3 x4 x5 x6
      = k0_pay2 (outRows x0 x1 x2 x3 x5 x6) x4 := by
  unfold out0_A_7
  rw [View.read_writes_junk_eq_canon, resA, rdX_eq, rdW_eq, rdW_eq, rdW_eq, rdG_eq, rdA_eq (hp := hp)]
  unfold resPiece
  rw [View.canon_cons_unit_lit' _ _ _ (by decide), rdW_eq, View.readCov_eq_canon', canon_out]
  refine congrArg (fun o => k0_pay2 o x4) (View.ld_unit_lit' _ _ (by decide))

end Runs

end Cert.KernelIdeal.Head
-- ==== Proof.Blocks.lean ====
module

public import proofs.«01_k».proof.Proof.Read

/-! The blocks that the body reads at each point, from the arguments. -/

@[expose] public section

set_option maxRecDepth 65536

noncomputable section
open Idealize.SL.Sem
open Idealize.ShloMosaic Idealize.ShloMosaic.TcCoe

namespace Cert.KernelIdeal.Head
open Cert.KernelIdeal Cert.KernelIdeal.Gen

variable (m : (ℓ : Loc nD τ sig) → Buf (Elt Ideal) ℓ)

/-- Every window's block index at every point. -/
theorem idx : ∀ t : Fin cfg0.N, win0_0.index t = ![t.val / 16, t.val % 16, 0] ∧ win0_1.index t = ![0, 0] ∧ win0_2.index t = ![0, 0]
    ∧ win0_3.index t = ![0, 0] ∧ win0_4.index t = ![0, 0] ∧ win0_5.index t = ![0, 0, 0] ∧ win0_6.index t = ![0, 0, 0] :=
  (by decide +kernel : ∀ t : Fin grid0.N, _)

/-- The grid has 64 points. -/
theorem tBound (t : Fin cfg0.N) : t.val < 64 := lt_of_lt_of_eq t.isLt (show cfg0.N = 64 from N_0)

/-- The block of tokens. -/
theorem blkX (c : Dev nD) (t : Fin cfg0.N) (r : Fin 512) (k : Fin 1024) :
    iblk m c 0 t (ix3 0 r k) = m ((c : Thread nD τ).loc main_arg0)
      (ix3 ⟨t.val / 16, by have := tBound t; omega⟩ ⟨512 * (t.val % 16) + r.val, by omega⟩ k) := by
  blk_ext [iblk, V, idx t]

/-- The queries' matrix. -/
theorem blkQ (c : Dev nD) (t : Fin cfg0.N) (i j : Fin 1024) :
    iblk m c 1 t (ix2 i j) = m ((c : Thread nD τ).loc main_arg1) (ix2 i j) := by
  blk_ext [iblk, V, idx t]

/-- The keys' matrix. -/
theorem blkK (c : Dev nD) (t : Fin cfg0.N) (i j : Fin 1024) :
    iblk m c 2 t (ix2 i j) = m ((c : Thread nD τ).loc main_arg2) (ix2 i j) := by
  blk_simp [iblk]
  entry_read
  blk_ext [idx t]

/-- The values' matrix. -/
theorem blkV (c : Dev nD) (t : Fin cfg0.N) (i j : Fin 1024) :
    iblk m c 3 t (ix2 i j) = m ((c : Thread nD τ).loc main_arg3) (ix2 i j) := by
  blk_simp [iblk]
  entry_read
  blk_ext [idx t]

/-- The last matrix. -/
theorem blkO (c : Dev nD) (t : Fin cfg0.N) (i j : Fin 1024) :
    iblk m c 4 t (ix2 i j) = m ((c : Thread nD τ).loc main_arg4) (ix2 i j) := by
  blk_simp [iblk]
  entry_read
  blk_ext [idx t]

/-- The gates' parameters. -/
theorem blkG (c : Dev nD) (t : Fin cfg0.N) (h : Fin 16) (e : Fin 64) :
    iblk m c 5 t (ix3 h 0 e) = m ((c : Thread nD τ).loc main_arg5) (ix4 0 h 0 e) := by
  blk_simp [iblk]
  entry_read
  pointwise
  blk_ext [idx t]

/-- The initial memory is the whole array that the host prepares. -/
theorem blkMem (c : Dev nD) (t : Fin cfg0.N) (h : Fin 16) (d : Fin 64) (e : Fin 128) :
    iblk m c 6 t (ix3 h d e) = V m c main_v4 (ix3 h d e) := by
  blk_ext [iblk, idx t]

/-- The left half of the initial memory. -/
theorem blkM (c : Dev nD) (t : Fin cfg0.N) (h : Fin 16) (d e : Fin 64) :
    iblk m c 6 t (ix3 h d ⟨e.val, by omega⟩) = m ((c : Thread nD τ).loc main_arg6) (ix4 0 h d e) := by
  rw [blkMem]
  entry_read
  pointwise

/-- The right half of the initial memory. -/
theorem blkZ (c : Dev nD) (t : Fin cfg0.N) (h : Fin 16) (d e : Fin 64) :
    iblk m c 6 t (ix3 h d ⟨64 + e.val, by omega⟩) = m ((c : Thread nD τ).loc main_arg7) (ix4 0 h 0 d) := by
  rw [blkMem]
  entry_read
  pointwise

end Cert.KernelIdeal.Head
-- ==== Proof.Fold.lean ====
module

public import proofs.«01_k».proof.Proof.Blocks
public import proofs.«01_k».proof.Proof.Gen.KernelIdeal.Value

/-! The memory carried from segment to segment, and the array of results. -/

@[expose] public section

set_option maxRecDepth 65536

noncomputable section
open Idealize.SL.Sem
open Idealize.ShloMosaic Idealize.ShloMosaic.TcCoe

namespace Cert.KernelIdeal.Head
open Cert.KernelIdeal Cert.KernelIdeal.Gen

variable (m : (ℓ : Loc nD τ sig) → Buf (Elt Ideal) ℓ)

/-- The grid's point for segment `s` of sequence `b`. -/
def pt (b : Fin 4) (s : ℕ) (hs : s < 16) : Fin cfg0.N := ⟨16 * b.val + s, by rw [show cfg0.N = 64 from N_0]; omega⟩

/-- The memory before segment `s` of sequence `b`. -/
def segMem (c : Dev nD) (b : Fin 4) : (s : ℕ) → s ≤ 16 → Vec Ideal S16x64x128 .f32
  | 0, _ => V m c main_v4
  | s + 1, hs => memNext (iblk m c 0 (pt b s hs)) (iblk m c 2 (pt b s hs)) (iblk m c 3 (pt b s hs))
      (segMem c b s (Nat.le_of_succ_le hs))

/-- The block of the first memory is the whole array. -/
theorem blkMem_eq (c : Dev nD) (t : Fin cfg0.N) : (iblk m c 6 t : Vec Ideal S16x64x128 .f32) = V m c main_v4 := by
  funext j
  idx_vars j
  exact blkMem m c t _ _ _

/-- What the body leaves after segment `s` of sequence `b`. -/
theorem after_point (c : Dev nD) (b : Fin 4) : ∀ (s : ℕ) (hs : s < 16),
    outsAt0 m c (pt b s hs).val (pt b s hs).isLt = (k0_pay2 (outRows (iblk m c 0 (pt b s hs)) (iblk m c 1 (pt b s hs))
      (iblk m c 2 (pt b s hs)) (iblk m c 3 (pt b s hs)) (iblk m c 5 (pt b s hs))
      (segMem m c b s hs.le)) (iblk m c 4 (pt b s hs)), segMem m c b (s + 1) hs)
  | 0, hs => by
    have h0 : (pt b 0 hs).val % 16 = 0 := by show (16 * b.val + 0) % 16 = 0; omega
    rw [outsAt0_A m c _ h0, out_A (hp := pay3_eq _), sout_A (hp := pay3_eq _), blkMem_eq]
    rfl
  | s + 1, hs => by
    have h0 : ¬ (pt b (s + 1) hs).val % 16 = 0 := by show ¬ (16 * b.val + (s + 1)) % 16 = 0; omega
    have ih := after_point c b s (Nat.lt_of_succ_lt hs)
    have e : (outsAt0 m c ((pt b (s + 1) hs).val - 1) (lt_of_le_of_lt (Nat.sub_le _ _) (pt b (s + 1) hs).isLt)).2
        = segMem m c b (s + 1) hs.le := congrArg Prod.snd ih
    rw [outsAt0_B m c _ h0, out_B, sout_B, e]
    rfl

/-- The array of results at row `512 * s + r` of sequence `b`. -/
theorem result (c : Dev nD) (b : Fin 4) (s : Fin 16) (r : Fin 512) (n : Fin 1024) :
    Value.G7 m c (ix3 b ⟨512 * s.val + r.val, by omega⟩ n)
      = ∑ k : Fin 1024, outRows (iblk m c 0 (pt b s.val s.isLt)) (iblk m c 1 (pt b s.val s.isLt)) (iblk m c 2 (pt b s.val s.isLt)) (iblk m c 3 (pt b s.val s.isLt)) (iblk m c 5 (pt b s.val s.isLt))
          (segMem m c b s.val s.isLt.le) (ix2 r k) * m ((c : Thread nD τ).loc main_arg4) (ix2 k n) := by
  have hpt : Value.pt7Of (ix3 b ⟨512 * s.val + r.val, by omega⟩ n) = (pt b s.val s.isLt).val := by
    show 16 * (b.val / 1 - 0) + 1 * ((512 * s.val + r.val) / 512 - 0) + 1 * (n.val / 1024 - 0) = 16 * b.val + s.val
    omega
  have hloc : Value.loc7Of (ix3 b ⟨512 * s.val + r.val, by omega⟩ n) = ix3 0 r n := by
    funext a
    fin_cases a
    · exact Subsingleton.elim (α := Fin 1) _ _
    · apply Fin.ext
      show (512 * s.val + r.val) % 512 = r.val
      omega
    · apply Fin.ext
      show n.val % 1024 = n.val
      omega
  unfold Value.G7
  rw [dif_pos (by rw [hpt]; exact (pt b s.val s.isLt).isLt), hloc]
  have e := (Value.outsAt0_sweep m c (pt b s.val s.isLt).val (pt b s.val s.isLt).isLt).symm.trans (after_point m c b s.val s.isLt)
  rw [Value.fold0_congr m c _ _ (pt b s.val s.isLt).val (by rw [Nat.zero_add]; exact (pt b s.val s.isLt).isLt) hpt, e]
  refine (pay2_apply _ _ r n).trans ?_
  refine Finset.sum_congr rfl fun k _ => ?_
  rw [blkO]

end Cert.KernelIdeal.Head
-- ==== Proof.RefStep.lean ====
module

public import proofs.«01_k».proof.Proof.Gen.ReferenceIdeal.Run
public import Idealize.ShloMosaic.Lib.Pointwise
public import Idealize.ShloMosaic.Lib.DynamicIndex
public import Idealize.ShloMosaic.Lib.Tactic.CleanTypes
public import Idealize.ShloMosaic.Lib.Pipeline.ValueKit

/-! One trip of the reference's loop at an index, over the extended reals. -/

@[expose] public section

set_option maxRecDepth 65536

noncomputable section
open Idealize.SL.Sem
open Idealize.ShloMosaic Idealize.ShloMosaic.TcCoe

namespace Cert.ReferenceIdeal.Trip
open Cert.ReferenceIdeal Cert.ReferenceIdeal.Gen Cert.ReferenceIdeal.Value Idealize.ShloMosaic.StableHlo

variable (V0 : Valuation τ sig (Elt Ideal))

/-- Row and column, in a segment's array, of entry `d` of position `p` of head `h`. -/
abbrev hrow (h : Fin 16) (p : Fin 512) : Fin 512 := ⟨32 * h.val + p.val / 16, by omega⟩
/-- The column of a head's entry. -/
abbrev hcol (p : Fin 512) (d : Fin 64) : Fin 1024 := ⟨64 * (p.val % 16) + d.val, by omega⟩

/-- A trip's arrays, as extended reals: the queries, keys and values of its segment, -/
abbrev q : S4x16x512x64.Idx → EReal := res_main_while0b_v28 V0
/-- A trip's keys. -/
abbrev k : S4x16x512x64.Idx → EReal := res_main_while0b_v29 V0
/-- A trip's values. -/
abbrev v : S4x16x512x64.Idx → EReal := res_main_while0b_v30 V0
/-- the scores and their exponentials, -/
abbrev score : S4x16x512x512.Idx → EReal := res_main_while0b_v34 V0
/-- A trip's exponentials. -/
abbrev exps : S4x16x512x512.Idx → EReal := res_main_while0b_v41 V0
/-- the feature maps of the queries and the keys. -/
abbrev featQ : S4x16x512x64.Idx → EReal := res_main_while0b_v52 V0
/-- A trip's features of the keys. -/
abbrev featK : S4x16x512x64.Idx → EReal := res_main_while0b_v63 V0
/-- What a trip is given: all queries, keys and values, -/
abbrev allQ : S16x4x512x1024.Idx → EReal := V0 (Proc.devRef .tc main_v22_0)
/-- The keys of all segments. -/
abbrev allK : S16x4x512x1024.Idx → EReal := V0 (Proc.devRef .tc main_v22_1)
/-- The values of all segments. -/
abbrev allV : S16x4x512x1024.Idx → EReal := V0 (Proc.devRef .tc main_v22_2)
/-- the scale of the scores, the mask, the gate, the last matrix, -/
abbrev scale : S_.Idx → EReal := V0 (Proc.devRef .tc main_v22_3)
/-- The mask. -/
abbrev mask : S512x512.Idx → BitVec 1 := V0 (Proc.devRef .tc main_v22_4)
/-- The gate. -/
abbrev gate : S1x16x1x64.Idx → EReal := V0 (Proc.devRef .tc main_v22_5)
/-- The last matrix. -/
abbrev matO : S1024x1024.Idx → EReal := V0 (Proc.devRef .tc main_v22_6)
/-- the memory, its normaliser and the results so far. -/
abbrev mem : S4x16x64x64.Idx → EReal := V0 (Proc.devRef .tc main_v22_8)
/-- The normaliser. -/
abbrev norm : S4x16x1x64.Idx → EReal := V0 (Proc.devRef .tc main_v22_9)
/-- The rows made so far. -/
abbrev res : S16x4x512x1024.Idx → EReal := V0 (Proc.devRef .tc main_v22_10)

/-- Where a trip's slice of the arrays that hold a segment on each slot of the first axis starts. -/
def start : Fin 4 → Int := fun k => (((![V0 (Proc.devRef .tc main_v22_7), constantI S_ 32 0#32, constantI S_ 32 0#32, constantI S_ 32 0#32] : Fin 4 → (⟨S_, .i32⟩ : BufTy).Contents (Elt Ideal))) k (Shape.Idx.first h_S_)).toInt

/-- The trip's slice starts at its segment. -/
theorem start_0 {s : Fin 16} (hs : V0 (Proc.devRef .tc main_v22_7) = fun _ => BitVec.ofNat 32 s.val) : start V0 0 = (s.val : Int) := by
  show (V0 (Proc.devRef .tc main_v22_7) (Shape.Idx.first h_S_)).toInt = _
  rw [hs]
  exact toInt_ofNat_of_lt (by omega)

/-- A trip's slice, as heads: position `p` of head `h` of sequence `b`. -/
theorem slice_apply {s : Fin 16} (hs : V0 (Proc.devRef .tc main_v22_7) = fun _ => BitVec.ofNat 32 s.val)
    (A : Vec Ideal S16x4x512x1024 .f32) (b : Fin 4) (h : Fin 16) (p : Fin 512) (d : Fin 64) :
    shapeCast S4x16x512x64 (shapeCast S4x512x1024 (Host.dynamicSlice S1x4x512x1024 A (start V0) sliceFits_S16x4x512x1024_S1x4x512x1024) shapeCasts_S1x4x512x1024_S4x512x1024) shapeCasts_S4x512x1024_S4x16x512x64 (ix4 b h p d)
      = A (ix4 s b (hrow h p) (hcol p d)) := by
  have h0 := start_0 V0 hs
  have h1 : start V0 1 = ((0 : ℕ) : Int) := rfl
  have h2 : start V0 2 = ((0 : ℕ) : Int) := rfl
  have h3 : start V0 3 = ((0 : ℕ) : Int) := rfl
  generalize start V0 = st at *
  rw [Host.dynamicSlice_eq_extractStridedSlice S1x4x512x1024 A st ![s.val, 0, 0, 0] sliceFits_S16x4x512x1024_S1x4x512x1024
    ⟨rfl, by have := s.isLt; intro a; fin_cases a <;> simp [S16x4x512x1024, S1x4x512x1024] <;> omega⟩ (by intro a; fin_cases a <;> assumption)]
  pointwise
  congr 2 <;> apply Fin.ext <;> simp only [hrow, hcol] <;> omega

/-- An entry of a trip's queries. -/
theorem q_apply {s : Fin 16} (hs : V0 (Proc.devRef .tc main_v22_7) = fun _ => BitVec.ofNat 32 s.val) (b : Fin 4) (h : Fin 16) (p : Fin 512) (d : Fin 64) :
    q V0 (ix4 b h p d) = allQ V0 (ix4 s b (hrow h p) (hcol p d)) :=
  slice_apply V0 hs _ b h p d

/-- An entry of a trip's keys. -/
theorem k_apply {s : Fin 16} (hs : V0 (Proc.devRef .tc main_v22_7) = fun _ => BitVec.ofNat 32 s.val) (b : Fin 4) (h : Fin 16) (p : Fin 512) (d : Fin 64) :
    k V0 (ix4 b h p d) = allK V0 (ix4 s b (hrow h p) (hcol p d)) :=
  slice_apply V0 hs _ b h p d

/-- An entry of a trip's values. -/
theorem v_apply {s : Fin 16} (hs : V0 (Proc.devRef .tc main_v22_7) = fun _ => BitVec.ofNat 32 s.val) (b : Fin 4) (h : Fin 16) (p : Fin 512) (d : Fin 64) :
    v V0 (ix4 b h p d) = allV V0 (ix4 s b (hrow h p) (hcol p d)) :=
  slice_apply V0 hs _ b h p d

/-- The word of minus infinity. -/
theorem negInf : (Ideal.ofBits .f32 0xFF800000#32 : EReal) = ⊥ := by simp [Ideal.ofBits, Ideal.ieee]

/-- The scores. -/
theorem score_apply (b : Fin 4) (h : Fin 16) (p j : Fin 512) :
    score V0 (ix4 b h p j) = if mask V0 (ix2 p j) = 1#1 then ⊥
      else (∑ d : Fin 64, q V0 (ix4 b h p d) * k V0 (ix4 b h j d)) * scale V0 ix0 := by
  unfold score res_main_while0b_v34
  clean_types
  simp only [id_eq]
  pointwise
  rw [← negInf]
  rfl

/-- The largest entry along the last of four axes. -/
theorem reduceMax_apply {n0 n1 n2 n3 : ℕ} (A : FVec Ideal ⟨4, ![n0, n1, n2, n3]⟩ .f32) (c : FVec Ideal S_ .f32)
    (h : (⟨4, ![n0, n1, n2, n3]⟩ : Shape).ReducesTo [3] ⟨3, ![n0, n1, n2]⟩) (b : Fin n0) (e : Fin n1) (p : Fin n2) :
    Host.reduce FloatOps.maximumf A c h h_S_ (ix3 b e p)
      = Finset.univ.fold max (c (Shape.Idx.first h_S_) : EReal) fun i : Fin n3 => (A (ix4 b e p i) : EReal) := by
  simp only [pointwise]

/-- The larger of two arrays at an index. -/
theorem larger_apply {s : Shape} (A B : FVec Ideal s .f32) (j : s.Idx) : maximumf A B j = max (A j : EReal) (B j) := rfl

/-- An array of one number at an index. -/
theorem splat_apply {s : Shape} (c : FVec Ideal S_ .f32) (x : EReal) (hc : ∀ i, c i = x) (h : S_.BroadcastsInDim s ![]) (j : s.Idx) :
    broadcastInDim s ![] h c j = x := hc _

/-- The largest entry of each row, at least minus infinity. -/
def rowMax (A : FVec Ideal S4x16x512x512 .f32) : FVec Ideal S4x16x512 .f32 :=
  maximumf (broadcastInDim S4x16x512 ![] bcast_S_S4x16x512 (constant S_ .f32 0xFF800000#32))
    (Host.reduce FloatOps.maximumf A (constant S_ .f32 0xFF800000#32) reducesTo_S4x16x512x512_S4x16x512_d3 h_S_)

/-- The largest score of a row. -/
theorem rowMax_apply (A : FVec Ideal S4x16x512x512 .f32) (b : Fin 4) (h : Fin 16) (p : Fin 512) :
    rowMax A (ix3 b h p) = max ⊥ (Finset.univ.fold max ⊥ fun i : Fin 512 => (A (ix4 b h p i) : EReal)) := by
  have hc : ∀ i, constant (F := Ideal) S_ .f32 0xFF800000#32 i = (⊥ : EReal) := fun _ => negInf
  unfold rowMax
  generalize constant (F := Ideal) S_ .f32 0xFF800000#32 = c at hc ⊢
  refine (larger_apply _ _ _).trans ?_
  refine congr (congrArg max (splat_apply c ⊥ hc _ _)) ((reduceMax_apply A c _ b h p).trans ?_)
  rw [hc]

/-- The exponentials of an array less a number of each row. -/
theorem expSub_apply (A : FVec Ideal S4x16x512x512 .f32) (B : FVec Ideal S4x16x512 .f32) (b : Fin 4) (h : Fin 16) (p j : Fin 512) :
    Host.exp (subf A (broadcastInDim S4x16x512x512 ![0, 1, 2, 3] bcast_S4x16x512x1_S4x16x512x512_0_1_2_3 (broadcastInDim S4x16x512x1 ![0, 1, 2] bcast_S4x16x512_S4x16x512x1_0_1_2 B))) (ix4 b h p j)
      = Ideal.exp ((A (ix4 b h p j) : EReal) - B (ix3 b h p)) := by
  pointwise

/-- The exponentials of the scores, less their largest. -/
theorem exps_apply (b : Fin 4) (h : Fin 16) (p j : Fin 512) :
    exps V0 (ix4 b h p j) = Ideal.exp (score V0 (ix4 b h p j) - rowMax (score V0) (ix3 b h p)) :=
  expSub_apply (score V0) (rowMax (score V0)) b h p j

/-- The queries' feature map. -/
theorem featQ_apply (b : Fin 4) (h : Fin 16) (p : Fin 512) (d : Fin 64) :
    featQ V0 (ix4 b h p d) = (if 0 < q V0 (ix4 b h p d) then q V0 (ix4 b h p d)
      else Ideal.exp (q V0 (ix4 b h p d)) - 1) + 1 := by
  unfold featQ res_main_while0b_v52
  clean_types
  simp only [id_eq]
  pointwise

/-- The keys' feature map. -/
theorem featK_apply (b : Fin 4) (h : Fin 16) (p : Fin 512) (d : Fin 64) :
    featK V0 (ix4 b h p d) = (if 0 < k V0 (ix4 b h p d) then k V0 (ix4 b h p d)
      else Ideal.exp (k V0 (ix4 b h p d)) - 1) + 1 := by
  unfold featK res_main_while0b_v63
  clean_types
  simp only [id_eq]
  pointwise

/-- The memory after a trip. -/
theorem mem_apply (b : Fin 4) (h : Fin 16) (d e : Fin 64) :
    (step_main_v22_8 V0 : S4x16x64x64.Idx → EReal) (ix4 b h d e) = mem V0 (ix4 b h d e)
      + ∑ p : Fin 512, featK V0 (ix4 b h p d) * v V0 (ix4 b h p e) := by
  unfold step_main_v22_8
  clean_types
  simp only [id_eq]
  pointwise

/-- The memory's normaliser after a trip. -/
theorem norm_apply (b : Fin 4) (h : Fin 16) (d : Fin 64) :
    (step_main_v22_9 V0 : S4x16x1x64.Idx → EReal) (ix4 b h 0 d) = norm V0 (ix4 b h 0 d)
      + ∑ p : Fin 512, featK V0 (ix4 b h p d) := by
  unfold step_main_v22_9
  clean_types
  simp only [id_eq]
  pointwise

end Cert.ReferenceIdeal.Trip
-- ==== Proof.RefOut.lean ====
module

public import proofs.«01_k».proof.Proof.RefStep
public import Idealize.ShloMosaic.Lib.WordCmp

/-! What one trip of the reference's loop writes. -/

@[expose] public section

set_option maxRecDepth 65536

noncomputable section
open Idealize.SL.Sem
open Idealize.ShloMosaic Idealize.ShloMosaic.TcCoe

namespace Cert.ReferenceIdeal.Trip
open Cert.ReferenceIdeal Cert.ReferenceIdeal.Gen Cert.ReferenceIdeal.Value Idealize.ShloMosaic.StableHlo

/-- The heads' attention, from the gate, the memory, its normaliser, the queries' feature map, the exponentials and the values. -/
def attOf (g : FVec Ideal S1x16x1x64 .f32) (M : FVec Ideal S4x16x64x64 .f32) (Z : FVec Ideal S4x16x1x64 .f32)
    (f : FVec Ideal S4x16x512x64 .f32) (w : FVec Ideal S4x16x512x512 .f32) (x : FVec Ideal S4x16x512x64 .f32) : FVec Ideal S4x16x512x64 .f32 :=
  addf (mulf (broadcastInDim S4x16x512x64 ![0, 1, 2, 3] bcast_S1x16x1x64_S4x16x512x64_0_1_2_3 g) (Host.divf (Host.dotGeneral dot_S4x16x512x64_S4x16x64x64_S4x16x512x64_3_2_2_3_01_01 none f M) (broadcastInDim S4x16x512x64 ![0, 1, 2, 3] bcast_S4x16x512x1_S4x16x512x64_0_1_2_3 (Host.dotGeneral dot_S4x16x512x64_S4x16x64x1_S4x16x512x1_3_2_2_3_01_01 none f (transpose S4x16x64x1 [0, 1, 3, 2] Z transposes_S4x16x1x64_S4x16x64x1_0_1_3_2))))) (mulf (broadcastInDim S4x16x512x64 ![0, 1, 2, 3] bcast_S1x16x1x64_S4x16x512x64_0_1_2_3 (subf (broadcastInDim S1x16x1x64 ![] bcast_S_S1x16x1x64 (constant S_ .f32 0x3F800000#32)) g)) (Host.dotGeneral dot_S4x16x512x512_S4x16x512x64_S4x16x512x64_3_2_2_3_01_01 none (Host.divf w (broadcastInDim S4x16x512x512 ![0, 1, 2, 3] bcast_S4x16x512x1_S4x16x512x512_0_1_2_3 (broadcastInDim S4x16x512x1 ![0, 1, 2] bcast_S4x16x512_S4x16x512x1_0_1_2 (Host.reduceAdd w (constant S_ .f32 0x00000000#32) reducesTo_S4x16x512x512_S4x16x512_d3 h_S_)))) x))

/-- An entry of the gated mean. -/
theorem attOf_apply (g : FVec Ideal S1x16x1x64 .f32) (M : FVec Ideal S4x16x64x64 .f32) (Z : FVec Ideal S4x16x1x64 .f32)
    (f : FVec Ideal S4x16x512x64 .f32) (w : FVec Ideal S4x16x512x512 .f32) (x : FVec Ideal S4x16x512x64 .f32)
    (b : Fin 4) (h : Fin 16) (p : Fin 512) (e : Fin 64) :
    attOf g M Z f w x (ix4 b h p e) = (g (ix4 0 h 0 e) : EReal)
        * Ideal.div (∑ d : Fin 64, (f (ix4 b h p d) : EReal) * M (ix4 b h d e)) (∑ d : Fin 64, (f (ix4 b h p d) : EReal) * Z (ix4 b h 0 d))
      + (1 - (g (ix4 0 h 0 e) : EReal))
        * ∑ j : Fin 512, Ideal.div (w (ix4 b h p j)) (∑ i : Fin 512, (w (ix4 b h p i) : EReal)) * (x (ix4 b h j e) : EReal) := by
  unfold attOf
  pointwise

/-- A trip's results: the heads' attention, read back as rows, times the last matrix. -/
def outOf (a : FVec Ideal S4x16x512x64 .f32) (w : FVec Ideal S1024x1024 .f32) : FVec Ideal S4x512x1024 .f32 :=
  Host.dotGeneral dot_S4x512x1024_S1024x1024_S4x512x1024_2_0_01_1_n_n none (shapeCast S4x512x1024 a shapeCasts_S4x16x512x64_S4x512x1024) w

/-- An entry of the last product. -/
theorem outOf_apply (a : FVec Ideal S4x16x512x64 .f32) (w : FVec Ideal S1024x1024 .f32) (b : Fin 4) (r : Fin 512) (n : Fin 1024) :
    outOf a w (ix3 b r n) = ∑ c : Fin 1024, (a (ix4 b ⟨r.val / 32, by omega⟩ ⟨r.val % 32 * 16 + c.val / 64, by have := c.isLt; omega⟩ ⟨c.val % 64, by omega⟩) : EReal)
      * w (ix2 c n) := by
  unfold outOf
  pointwise

/-- Writing a trip's results changes the trip's segment only. -/
theorem write_apply (st : Fin 4 → Int) (s : Fin 16) (h0 : st 0 = (s.val : Int)) (h1 : st 1 = ((0 : ℕ) : Int)) (h2 : st 2 = ((0 : ℕ) : Int)) (h3 : st 3 = ((0 : ℕ) : Int))
    (A : FVec Ideal S16x4x512x1024 .f32) (B : FVec Ideal S4x512x1024 .f32) (s' : Fin 16) (b : Fin 4) (r : Fin 512) (n : Fin 1024) :
    Host.dynamicUpdateSlice A (broadcastInDim S1x4x512x1024 ![1, 2, 3] bcast_S4x512x1024_S1x4x512x1024_1_2_3 B) st updateFits_S16x4x512x1024_S1x4x512x1024 (ix4 s' b r n)
      = if s' = s then B (ix3 b r n) else A (ix4 s' b r n) := by
  rw [WordCmp.dynamicUpdateSlice_eq_update A _ st updateFits_S16x4x512x1024_S1x4x512x1024 ![s.val, 0, 0, 0]
    ⟨rfl, by have := s.isLt; intro a; fin_cases a <;> simp [S16x4x512x1024, S1x4x512x1024] <;> omega⟩ (by intro a; fin_cases a <;> assumption)]
  pointwise
  by_cases e : s' = s
  · subst e; simp
  · rw [if_neg e, dif_neg (fun k => e (Fin.ext (by omega)))]

/-- A head's attention. -/
def att (V0 : Valuation τ sig (Elt Ideal)) : S4x16x512x64.Idx → EReal := attOf (gate V0) (mem V0) (norm V0) (featQ V0) (exps V0) (v V0)

/-- The results after a trip: the trip's segment is the product of the heads' attention with the last matrix. -/
theorem res_apply (V0 : Valuation τ sig (Elt Ideal)) {s : Fin 16} (hs : V0 (Proc.devRef .tc main_v22_7) = fun _ => BitVec.ofNat 32 s.val) (s' : Fin 16) (b : Fin 4) (r : Fin 512) (n : Fin 1024) :
    (step_main_v22_10 V0 : S16x4x512x1024.Idx → EReal) (ix4 s' b r n) = if s' = s then outOf (att V0) (matO V0) (ix3 b r n) else res V0 (ix4 s' b r n) :=
  write_apply (start V0) s (start_0 V0 hs) rfl rfl rfl (res V0) (outOf (att V0) (matO V0)) s' b r n

end Cert.ReferenceIdeal.Trip
-- ==== Proof.RefEntry.lean ====
module

public import proofs.«01_k».proof.Proof.RefOut

/-! What the reference's loop is given. -/

@[expose] public section

set_option maxRecDepth 65536

noncomputable section
open Idealize.SL.Sem
open Idealize.ShloMosaic Idealize.ShloMosaic.TcCoe

namespace Cert.ReferenceIdeal.Trip
open Cert.ReferenceIdeal Cert.ReferenceIdeal.Gen Cert.ReferenceIdeal.Value Idealize.ShloMosaic.StableHlo

variable (m : (ℓ : Loc nD τ sig) → Buf (Elt Ideal) ℓ)

/-- The buffers where the loop starts. -/
def entry (c : Dev nD) : Valuation τ sig (Elt Ideal) := entryContents preI m c

/-- The arguments, as arrays of extended reals: the input, the four matrices, the gate's numbers, the memory and its normaliser. -/
abbrev argX (c : Dev nD) : S4x8192x1024.Idx → EReal := m ((c : Thread nD τ).loc main_arg0)
/-- The matrix of the queries. -/
abbrev argQ (c : Dev nD) : S1024x1024.Idx → EReal := m ((c : Thread nD τ).loc main_arg1)
/-- The matrix of the keys. -/
abbrev argK (c : Dev nD) : S1024x1024.Idx → EReal := m ((c : Thread nD τ).loc main_arg2)
/-- The matrix of the values. -/
abbrev argV (c : Dev nD) : S1024x1024.Idx → EReal := m ((c : Thread nD τ).loc main_arg3)
/-- The last matrix. -/
abbrev argO (c : Dev nD) : S1024x1024.Idx → EReal := m ((c : Thread nD τ).loc main_arg4)
/-- The weights of the gate. -/
abbrev argB (c : Dev nD) : S1x16x1x64.Idx → EReal := m ((c : Thread nD τ).loc main_arg5)
/-- The first memory. -/
abbrev argM (c : Dev nD) : S1x16x64x64.Idx → EReal := m ((c : Thread nD τ).loc main_arg6)
/-- The first normaliser. -/
abbrev argZ (c : Dev nD) : S1x16x1x64.Idx → EReal := m ((c : Thread nD τ).loc main_arg7)

/-- A projection of the input, cut into segments. -/
theorem segments_apply (x : FVec Ideal S4x8192x1024 .f32) (w : FVec Ideal S1024x1024 .f32) (s : Fin 16) (b : Fin 4) (r : Fin 512) (n : Fin 1024) :
    transpose S16x4x512x1024 [1, 0, 2, 3] (shapeCast S4x16x512x1024 (Host.dotGeneral dot_S4x8192x1024_S1024x1024_S4x8192x1024_2_0_01_1_n_n none x w) shapeCasts_S4x8192x1024_S4x16x512x1024)
        transposes_S4x16x512x1024_S16x4x512x1024_1_0_2_3 (ix4 s b r n)
      = ∑ k : Fin 1024, (x (ix3 b ⟨512 * s.val + r.val, by omega⟩ k) : EReal) * w (ix2 k n) := by
  pointwise
  simp only [Nat.mul_comm]

/-- The queries of a segment before the loop. -/
theorem entryQ (c : Dev nD) (s : Fin 16) (b : Fin 4) (r : Fin 512) (n : Fin 1024) :
    allQ (entry m c) (ix4 s b r n) = ∑ k : Fin 1024, argX m c (ix3 b ⟨512 * s.val + r.val, by omega⟩ k) * argQ m c (ix2 k n) := by
  show entryContents preI m c (Proc.devRef .tc main_v22_0) (ix4 s b r n) = _
  simp only [entryContents, afterL_cons, afterL_nil]
  after_reads_simp
  exact segments_apply (argX m c) (argQ m c) s b r n

/-- The keys of a segment before the loop. -/
theorem entryK (c : Dev nD) (s : Fin 16) (b : Fin 4) (r : Fin 512) (n : Fin 1024) :
    allK (entry m c) (ix4 s b r n) = ∑ k : Fin 1024, argX m c (ix3 b ⟨512 * s.val + r.val, by omega⟩ k) * argK m c (ix2 k n) := by
  show entryContents preI m c (Proc.devRef .tc main_v22_1) (ix4 s b r n) = _
  simp only [entryContents, afterL_cons, afterL_nil]
  after_reads_simp
  exact segments_apply (argX m c) (argK m c) s b r n

/-- The values of a segment before the loop. -/
theorem entryV (c : Dev nD) (s : Fin 16) (b : Fin 4) (r : Fin 512) (n : Fin 1024) :
    allV (entry m c) (ix4 s b r n) = ∑ k : Fin 1024, argX m c (ix3 b ⟨512 * s.val + r.val, by omega⟩ k) * argV m c (ix2 k n) := by
  show entryContents preI m c (Proc.devRef .tc main_v22_2) (ix4 s b r n) = _
  simp only [entryContents, afterL_cons, afterL_nil]
  after_reads_simp
  exact segments_apply (argX m c) (argV m c) s b r n

/-- The scale is one eighth. -/
theorem entryScale (c : Dev nD) : scale (entry m c) ix0 = (((1/8 : ℝ)) : EReal) := by
  show entryContents preI m c (Proc.devRef .tc main_v22_3) _ = _
  simp only [entryContents, afterL_cons, afterL_nil]
  after_reads_simp
  clean_types
  simp only [id_eq]
  pointwise
  rw [show (Ideal.ofBits .f32 0x42800000#32 : EReal) = ((64 : ℝ) : EReal) by simp [Ideal.ofBits, Ideal.ieee, -EReal.coe_mul]; norm_num,
    show Ideal.sqrt ((64 : ℝ) : EReal) = ((8 : ℝ) : EReal) from (if_neg (by norm_num)).trans (congrArg _ (by rw [show (64 : ℝ) = 8 ^ 2 by norm_num]; exact Real.sqrt_sq (by norm_num)))]
  rw [Ideal.div, if_neg (by exact_mod_cast (by norm_num : (8 : ℝ) ≠ 0)), one_mul, ← EReal.coe_inv]
  norm_num

/-- The mask covers the later columns. -/
theorem entryMask (c : Dev nD) (p j : Fin 512) : mask (entry m c) (ix2 p j) = if p < j then 1#1 else 0#1 := by
  show entryContents preI m c (Proc.devRef .tc main_v22_4) _ = _
  simp only [entryContents, afterL_cons, afterL_nil]
  after_reads_simp
  show select (cmpi .sge (addi (iotaInDim S512x512 32 0) (broadcastInDim S512x512 ![] bcast_S_S512x512 (constantI S_ 32 0#32))) (iotaInDim S512x512 32 1))
    (broadcastInDim S512x512 ![] bcast_S_S512x512 (constantI S_ 1 0#1)) (broadcastInDim S512x512 ![] bcast_S_S512x512 (constantI S_ 1 1#1)) (ix2 p j) = _
  pointwise!
  have hp := p.isLt
  have hj := j.isLt
  rw [show IntOp.cmpi .sge (IntOp.addi (BitVec.ofNat 32 p.val) 0#32) (BitVec.ofNat 32 j.val) = if p < j then 0#1 else 1#1 from ?_]
  · split <;> rfl
  · have key : (BitVec.ofNat 32 j.val).sle (BitVec.ofNat 32 p.val) = decide (¬ p < j) := by
      rw [Bool.eq_iff_iff, BitVec.sle_iff_toInt_le, toInt_ofNat_of_lt (by omega), toInt_ofNat_of_lt (by omega), decide_eq_true_iff, not_lt, Fin.le_def]
      omega
    simp only [IntOp.cmpi, IntOp.addi, BitVec.add_zero]
    rw [key]
    by_cases h : p < j <;> simp [h]

/-- The gate is the logistic function of its weights. -/
theorem entryGate (c : Dev nD) (h : Fin 16) (e : Fin 64) : gate (entry m c) (ix4 0 h 0 e) = Ideal.div 1 (1 + Ideal.exp (-argB m c (ix4 0 h 0 e))) := by
  show entryContents preI m c (Proc.devRef .tc main_v22_5) _ = _
  simp only [entryContents, afterL_cons, afterL_nil]
  after_reads_simp
  clean_types
  simp only [id_eq]
  pointwise

/-- The last matrix before the loop. -/
theorem entryO (c : Dev nD) (i j : Fin 1024) : matO (entry m c) (ix2 i j) = argO m c (ix2 i j) := by
  show entryContents preI m c (Proc.devRef .tc main_v22_6) _ = _
  simp only [entryContents, afterL_cons, afterL_nil]
  after_reads_simp
  clean_types
  simp only [id_eq]

/-- The memory before the loop. -/
theorem entryMem (c : Dev nD) (b : Fin 4) (h : Fin 16) (d e : Fin 64) : mem (entry m c) (ix4 b h d e) = argM m c (ix4 0 h d e) := by
  show entryContents preI m c (Proc.devRef .tc main_v22_8) _ = _
  simp only [entryContents, afterL_cons, afterL_nil]
  after_reads_simp
  clean_types
  simp only [id_eq]
  pointwise

/-- The normaliser before the loop. -/
theorem entryNorm (c : Dev nD) (b : Fin 4) (h : Fin 16) (d : Fin 64) : norm (entry m c) (ix4 b h 0 d) = argZ m c (ix4 0 h 0 d) := by
  show entryContents preI m c (Proc.devRef .tc main_v22_9) _ = _
  simp only [entryContents, afterL_cons, afterL_nil]
  after_reads_simp
  clean_types
  simp only [id_eq]
  pointwise

end Cert.ReferenceIdeal.Trip
-- ==== Proof.RefLoop.lean ====
module

public import proofs.«01_k».proof.Proof.RefEntry

/-! The reference's loop: the segments one after another. -/

@[expose] public section

set_option maxRecDepth 65536

noncomputable section
open Idealize.SL.Sem
open Idealize.ShloMosaic Idealize.ShloMosaic.TcCoe

namespace Cert.ReferenceIdeal.Trip
open Cert.ReferenceIdeal Cert.ReferenceIdeal.Gen Cert.ReferenceIdeal.Value Idealize.ShloMosaic.StableHlo

variable (m : (ℓ : Loc nD τ sig) → Buf (Elt Ideal) ℓ)

/-- The buffers after `s` segments. -/
def after (c : Dev nD) (s : ℕ) : Valuation τ sig (Elt Ideal) := STEP^[s] (entry m c)

/-- One more trip. -/
theorem after_succ (c : Dev nD) (s : ℕ) : after m c (s + 1) = STEP (after m c s) := Function.iterate_succ_apply' _ _ _

/-- The counter after `s` segments. -/
theorem after_ctr (c : Dev nD) : ∀ s : ℕ, after m c s (Proc.devRef .tc main_v22_7) = fun _ => BitVec.ofNat 32 s
  | 0 => ctr_entry m c
  | s + 1 => by
    rw [after_succ, STEP_main_v22_7]
    unfold step_main_v22_7
    rw [after_ctr c s]
    funext i
    exact (BitVec.ofNat_add s 1).symm

/-- A trip leaves what it is only given. -/
theorem after_Q (c : Dev nD) : ∀ s : ℕ, allQ (after m c s) = allQ (entry m c)
  | 0 => rfl
  | s + 1 => by rw [after_succ]; exact (STEP_main_v22_0 _).trans (after_Q c s)

/-- The trips leave the keys. -/
theorem after_K (c : Dev nD) : ∀ s : ℕ, allK (after m c s) = allK (entry m c)
  | 0 => rfl
  | s + 1 => by rw [after_succ]; exact (STEP_main_v22_1 _).trans (after_K c s)

/-- The trips leave the values. -/
theorem after_V (c : Dev nD) : ∀ s : ℕ, allV (after m c s) = allV (entry m c)
  | 0 => rfl
  | s + 1 => by rw [after_succ]; exact (STEP_main_v22_2 _).trans (after_V c s)

/-- The trips leave the scale. -/
theorem after_scale (c : Dev nD) : ∀ s : ℕ, scale (after m c s) = scale (entry m c)
  | 0 => rfl
  | s + 1 => by rw [after_succ]; exact (STEP_main_v22_3 _).trans (after_scale c s)

/-- The trips leave the mask. -/
theorem after_mask (c : Dev nD) : ∀ s : ℕ, mask (after m c s) = mask (entry m c)
  | 0 => rfl
  | s + 1 => by rw [after_succ]; exact (STEP_main_v22_4 _).trans (after_mask c s)

/-- The trips leave the gate. -/
theorem after_gate (c : Dev nD) : ∀ s : ℕ, gate (after m c s) = gate (entry m c)
  | 0 => rfl
  | s + 1 => by rw [after_succ]; exact (STEP_main_v22_5 _).trans (after_gate c s)

/-- The trips leave the last matrix. -/
theorem after_O (c : Dev nD) : ∀ s : ℕ, matO (after m c s) = matO (entry m c)
  | 0 => rfl
  | s + 1 => by rw [after_succ]; exact (STEP_main_v22_6 _).trans (after_O c s)

/-- A segment's rows of a projection. -/
def proj (w : S1024x1024.Idx → EReal) (c : Dev nD) (s : Fin 16) (b : Fin 4) (h : Fin 16) (p : Fin 512) (d : Fin 64) : EReal :=
  ∑ k : Fin 1024, argX m c (ix3 b ⟨512 * s.val + (hrow h p).val, by omega⟩ k) * w (ix2 k (hcol p d))

/-- A trip's queries are a projection of its segment. -/
theorem after_q (c : Dev nD) (s : Fin 16) (b : Fin 4) (h : Fin 16) (p : Fin 512) (d : Fin 64) :
    q (after m c s.val) (ix4 b h p d) = proj m (argQ m c) c s b h p d := by
  rw [q_apply _ (after_ctr m c s.val), after_Q, entryQ]
  rfl

/-- A trip's keys are a projection of its segment. -/
theorem after_k (c : Dev nD) (s : Fin 16) (b : Fin 4) (h : Fin 16) (p : Fin 512) (d : Fin 64) :
    k (after m c s.val) (ix4 b h p d) = proj m (argK m c) c s b h p d := by
  rw [k_apply _ (after_ctr m c s.val), after_K, entryK]
  rfl

/-- A trip's values are a projection of its segment. -/
theorem after_v (c : Dev nD) (s : Fin 16) (b : Fin 4) (h : Fin 16) (p : Fin 512) (d : Fin 64) :
    v (after m c s.val) (ix4 b h p d) = proj m (argV m c) c s b h p d := by
  rw [v_apply _ (after_ctr m c s.val), after_V, entryV]
  rfl

/-- The scores of a segment. -/
theorem after_score (c : Dev nD) (s : Fin 16) (b : Fin 4) (h : Fin 16) (p j : Fin 512) :
    score (after m c s.val) (ix4 b h p j) = if p < j then ⊥
      else (∑ d : Fin 64, proj m (argQ m c) c s b h p d * proj m (argK m c) c s b h j d) * ((1/8 : ℝ) : EReal) := by
  rw [score_apply, after_mask, entryMask, after_scale, entryScale]
  simp only [after_q, after_k]
  by_cases e : p < j <;> simp [e]

/-- The memory before a sequence's first segment, and after each. -/
theorem after_mem_zero (c : Dev nD) (b : Fin 4) (h : Fin 16) (d e : Fin 64) : mem (after m c 0) (ix4 b h d e) = argM m c (ix4 0 h d e) :=
  entryMem m c b h d e

/-- What a trip adds to the memory. -/
theorem after_mem_succ (c : Dev nD) (s : ℕ) (b : Fin 4) (h : Fin 16) (d e : Fin 64) : mem (after m c (s + 1)) (ix4 b h d e)
    = mem (after m c s) (ix4 b h d e) + ∑ p : Fin 512, featK (after m c s) (ix4 b h p d) * v (after m c s) (ix4 b h p e) := by
  rw [after_succ]
  exact (congrFun (STEP_main_v22_8 _) _).trans (mem_apply _ b h d e)

/-- The memory's normaliser before a sequence's first segment, and after each. -/
theorem after_norm_zero (c : Dev nD) (b : Fin 4) (h : Fin 16) (d : Fin 64) : norm (after m c 0) (ix4 b h 0 d) = argZ m c (ix4 0 h 0 d) :=
  entryNorm m c b h d

/-- What a trip adds to the normaliser. -/
theorem after_norm_succ (c : Dev nD) (s : ℕ) (b : Fin 4) (h : Fin 16) (d : Fin 64) : norm (after m c (s + 1)) (ix4 b h 0 d)
    = norm (after m c s) (ix4 b h 0 d) + ∑ p : Fin 512, featK (after m c s) (ix4 b h p d) := by
  rw [after_succ]
  exact (congrFun (STEP_main_v22_9 _) _).trans (norm_apply _ b h d)

/-- A segment's results stay. -/
theorem after_res (c : Dev nD) (s : Fin 16) (b : Fin 4) (r : Fin 512) (n : Fin 1024) : ∀ t : ℕ, s.val < t → t ≤ 16 →
    res (after m c t) (ix4 s b r n) = outOf (att (after m c s.val)) (argO m c) (ix3 b r n)
  | t + 1, ht, ht' => by
    rw [after_succ]
    refine (congrFun (STEP_main_v22_10 _) _).trans ((res_apply (after m c t) (s := ⟨t, by omega⟩) (after_ctr m c t) s b r n).trans ?_)
    by_cases e : s = ⟨t, by omega⟩
    · have e' : s.val = t := congrArg Fin.val e
      rw [if_pos e, e', after_O]
      rw [show matO (entry m c) = argO m c from funext fun i => (congrArg _ (eq_ix2 i)).trans ((entryO m c (i 0) (i 1)).trans (congrArg _ (eq_ix2 i).symm))]
    · rw [if_neg e]
      exact after_res c s b r n t (by have : s.val ≠ t := fun k => e (Fin.ext k); omega) (by omega)

/-- The reference's result. -/
theorem result (c : Dev nD) (b : Fin 4) (s : Fin 16) (r : Fin 512) (n : Fin 1024) :
    (out_main_v24 (STEP^[16] (entryContents preI m c)) : S4x8192x1024.Idx → EReal) (ix3 b ⟨512 * s.val + r.val, by omega⟩ n)
      = outOf (att (after m c s.val)) (argO m c) (ix3 b r n) := by
  rw [← after_res m c s b r n 16 s.isLt le_rfl]
  show out_main_v24 (after m c 16) _ = _
  unfold out_main_v24
  generalize hA : after m c 16 = A
  clean_types
  pointwise

end Cert.ReferenceIdeal.Trip
-- ==== Proof.Alg.lean ====
module

public import Idealize.ShloMosaic.PureOps.Ideal
public import Mathlib.Data.EReal.Operations
public import Mathlib.Data.EReal.Inv
public import Mathlib.Analysis.SpecialFunctions.Pow.Real

/-! The arithmetic of the extended reals that the equation of the two programs rests on. -/

@[expose] public section

noncomputable section
open Idealize.ShloMosaic

namespace Cert.Alg

/-- An extended real that is neither infinity. -/
def IsReal (x : EReal) : Prop := ∃ r : ℝ, x = (r : EReal)

/-- A sum of reals is a real. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A product of reals is a real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of reals is a real. -/
theorem IsReal.sum {ι : Type} [Fintype ι] {f : ι → EReal} (hf : ∀ i, IsReal (f i)) : IsReal (∑ i, f i) := by
  choose g hg using hf
  exact ⟨∑ i, g i, by rw [← coe_sum]; exact Finset.sum_congr rfl fun i _ => hg i⟩

/-- A nonnegative real factor moves out of a sum of any extended reals. -/
theorem sum_mul_const {ι : Type} (s : Finset ι) (f : ι → EReal) {t : ℝ} (ht : 0 ≤ t) :
    ∑ i ∈ s, f i * (t : EReal) = (∑ i ∈ s, f i) * (t : EReal) := by
  classical
  induction s using Finset.induction_on with
  | empty => simp
  | insert i s hi ih =>
    rw [Finset.sum_insert hi, Finset.sum_insert hi, ih,
      EReal.right_distrib_of_nonneg_of_ne_top (EReal.coe_nonneg.2 ht) (EReal.coe_ne_top t)]

/-- A real factor inside each product of a sum of products of reals moves out. -/
theorem sum_mul_mul_const {ι : Type} [Fintype ι] (x w : ι → EReal) {t : ℝ} (ht : 0 ≤ t) :
    ∑ i, x i * (w i * (t : EReal)) = (∑ i, x i * w i) * (t : EReal) := by
  rw [← sum_mul_const _ _ ht]
  exact Finset.sum_congr rfl fun i _ => (mul_assoc _ _ _).symm

/-- The exponential at a real. -/
theorem exp_coe (r : ℝ) : Ideal.exp (r : EReal) = (Real.exp r : EReal) := rfl

/-- The exponential at minus infinity is zero. -/
theorem exp_bot : Ideal.exp ⊥ = 0 := rfl

/-- The power of two at a real, by the exponential. -/
theorem exp2_coe (r : ℝ) : Ideal.exp2 (r : EReal) = (Real.exp (Real.log 2 * r) : EReal) :=
  (show Ideal.exp2 (r : EReal) = (((2 : ℝ) ^ r : ℝ) : EReal) from rfl).trans (congrArg Real.toEReal (Real.rpow_def_of_pos two_pos r))

/-- Division by a real other than zero is the product with its inverse. -/
theorem div_coe (x : EReal) {y : ℝ} (hy : y ≠ 0) : Ideal.div x (y : EReal) = x * ((y⁻¹ : ℝ) : EReal) := by
  rw [Ideal.div, if_neg (by exact_mod_cast hy), EReal.coe_inv]

/-- The logarithm of two is positive. -/
theorem log_two_pos : 0 < Real.log 2 := Real.log_pos (by norm_num)

/-- The queries' feature map: the scale of the scores, undone, gives the unscaled map. -/
theorem featQ_eq {x : EReal} (hx : IsReal x) :
    (if 0 < x * (((8 * Real.log 2)⁻¹ : ℝ) : EReal) then x * (((8 * Real.log 2)⁻¹ : ℝ) : EReal) * ((8 * Real.log 2 : ℝ) : EReal) + 1
        else Ideal.exp2 (x * (((8 * Real.log 2)⁻¹ : ℝ) : EReal) * ((8 : ℝ) : EReal)))
      = (if 0 < x then x else Ideal.exp x - 1) + 1 := by
  obtain ⟨r, rfl⟩ := hx
  have hl := log_two_pos
  have hc : (0 : ℝ) < (8 * Real.log 2)⁻¹ := by positivity
  have h0 : (0 : EReal) = ((0 : ℝ) : EReal) := rfl
  have h1 : (1 : EReal) = ((1 : ℝ) : EReal) := rfl
  rw [← EReal.coe_mul, ← EReal.coe_mul, ← EReal.coe_mul, exp2_coe, exp_coe, h0, h1, ← EReal.coe_sub]
  simp only [EReal.coe_lt_coe_iff]
  by_cases h : 0 < r
  · rw [if_pos (mul_pos h hc), if_pos h, mul_assoc, inv_mul_cancel₀ (by positivity), mul_one]
  · rw [if_neg (fun k => h ((mul_pos_iff_of_pos_right hc).1 k)), if_neg h, ← EReal.coe_add]
    congr 1
    rw [sub_add_cancel]
    congr 1
    field_simp

/-- The keys' feature map. -/
theorem featK_eq {x : EReal} (hx : IsReal x) :
    (if 0 < x then x + 1 else Ideal.exp x) = (if 0 < x then x else Ideal.exp x - 1) + 1 := by
  obtain ⟨r, rfl⟩ := hx
  by_cases h : (0 : EReal) < r
  · rw [if_pos h, if_pos h]
  · have h1 : (1 : EReal) = ((1 : ℝ) : EReal) := rfl
    rw [if_neg h, if_neg h, exp_coe, h1, ← EReal.coe_sub, ← EReal.coe_add, sub_add_cancel]

/-- A weight: two to the scaled product is the exponential of an eighth of the product. -/
theorem weight_eq {ι : Type} [Fintype ι] {x y : ι → EReal} (hx : ∀ i, IsReal (x i)) (hy : ∀ i, IsReal (y i)) :
    Ideal.exp2 (∑ i, x i * (((8 * Real.log 2)⁻¹ : ℝ) : EReal) * y i) = Ideal.exp ((∑ i, x i * y i) * ((1 / 8 : ℝ) : EReal)) := by
  have hl := log_two_pos
  have e : ∑ i, x i * (((8 * Real.log 2)⁻¹ : ℝ) : EReal) * y i = (∑ i, x i * y i) * (((8 * Real.log 2)⁻¹ : ℝ) : EReal) := by
    rw [← sum_mul_const _ _ (by positivity)]
    exact Finset.sum_congr rfl fun i _ => mul_right_comm _ _ _
  obtain ⟨r, hr⟩ := IsReal.sum fun i => (hx i).mul (hy i)
  rw [e, hr, ← EReal.coe_mul, ← EReal.coe_mul, exp2_coe, exp_coe]
  congr 2
  field_simp

/-- Normalised exponentials: taking the largest score off every score first changes nothing, and the division may come
    after the sum. The values summed may be any extended reals. -/
theorem softmax_eq {n : ℕ} (σ v : Fin n → EReal) (hσ : ∀ j, σ j = ⊥ ∨ IsReal (σ j)) (j₀ : Fin n) (h₀ : IsReal (σ j₀)) :
    Ideal.div (∑ j, Ideal.exp (σ j) * v j) (∑ j, Ideal.exp (σ j))
      = ∑ j, Ideal.div (Ideal.exp (σ j - max ⊥ (Finset.univ.fold max ⊥ σ))) (∑ i, Ideal.exp (σ i - max ⊥ (Finset.univ.fold max ⊥ σ))) * v j := by
  have hmax : IsReal (max ⊥ (Finset.univ.fold max ⊥ σ)) := by
    have e : (Finset.univ.fold max ⊥ σ : EReal) = Finset.univ.sup σ := rfl
    rw [e, max_eq_right bot_le]
    obtain ⟨r, hr⟩ := h₀
    have hbot : Finset.univ.sup σ ≠ ⊥ := fun k => by
      have := Finset.le_sup (f := σ) (Finset.mem_univ j₀)
      rw [k, hr] at this
      exact EReal.coe_ne_bot r (le_bot_iff.1 this)
    have htop : Finset.univ.sup σ ≠ ⊤ := ne_of_lt ((Finset.sup_lt_iff bot_lt_top).2 fun j _ => by
      rcases hσ j with h | ⟨s, h⟩
      · rw [h]; exact bot_lt_top
      · rw [h]; exact EReal.coe_lt_top s)
    exact ⟨_, (EReal.coe_toReal htop hbot).symm⟩
  obtain ⟨μ, hμ⟩ := hmax
  rw [hμ]
  have hw : ∀ j, ∃ a : ℝ, 0 ≤ a ∧ Ideal.exp (σ j) = (a : EReal) ∧ Ideal.exp (σ j - μ) = ((a * Real.exp (-μ) : ℝ) : EReal) := fun j => by
    rcases hσ j with h | ⟨s, h⟩
    · exact ⟨0, le_rfl, by rw [h]; rfl, by rw [h, EReal.bot_sub, exp_bot, zero_mul]; rfl⟩
    · exact ⟨Real.exp s, (Real.exp_pos s).le, by rw [h]; rfl, by rw [h, ← EReal.coe_sub, exp_coe, sub_eq_add_neg, Real.exp_add]⟩
  choose a ha0 ha hb using hw
  have hpos : 0 < ∑ j, a j := by
    refine Finset.sum_pos' (fun j _ => ha0 j) ⟨j₀, Finset.mem_univ _, ?_⟩
    obtain ⟨r, hr⟩ := h₀
    have := ha j₀
    rw [hr, exp_coe] at this
    rw [← EReal.coe_eq_coe_iff.1 this]
    exact Real.exp_pos r
  have ht := Real.exp_pos (-μ)
  simp only [ha, hb, coe_sum]
  rw [← Finset.sum_mul, div_coe _ hpos.ne', ← sum_mul_const _ _ (inv_nonneg.2 hpos.le)]
  refine Finset.sum_congr rfl fun j _ => ?_
  rw [div_coe _ (mul_pos hpos ht).ne', ← EReal.coe_mul, mul_right_comm, ← EReal.coe_mul]
  congr 2
  field_simp

end Cert.Alg
-- ==== Proof.HeadEq.lean ====
module

public import proofs.«01_k».proof.Proof.HeadValue
public import proofs.«01_k».proof.Proof.Alg

/-! A head's attention and its new memory as the mathematics has them, and that the kernel's are these. -/

@[expose] public section

set_option maxRecDepth 65536

noncomputable section
open Idealize.ShloMosaic Idealize.SL.Sem

namespace Cert.Alg

/-- The feature map of a query or a key. -/
def feat (x : EReal) : EReal := (if 0 < x then x else Ideal.exp x - 1) + 1

/-- The score of position `j` at position `p`: minus infinity at a later position. -/
def score (Q K : Fin 512 → Fin 64 → EReal) (p j : Fin 512) : EReal :=
  if p < j then ⊥ else (∑ d : Fin 64, Q p d * K j d) * ((1 / 8 : ℝ) : EReal)

/-- The exponential of a score less the largest at its position. -/
def expo (Q K : Fin 512 → Fin 64 → EReal) (p j : Fin 512) : EReal :=
  Ideal.exp (score Q K p j - max ⊥ (Finset.univ.fold max ⊥ (score Q K p)))

/-- A head's attention at position `p`: the memory's part and the segment's, mixed by the gate. -/
def attention (g : EReal) (Q K V : Fin 512 → Fin 64 → EReal) (M : Fin 64 → Fin 64 → EReal) (Z : Fin 64 → EReal) (p : Fin 512) (e : Fin 64) : EReal :=
  g * Ideal.div (∑ d : Fin 64, feat (Q p d) * M d e) (∑ d : Fin 64, feat (Q p d) * Z d)
    + (1 - g) * ∑ j : Fin 512, Ideal.div (expo Q K p j) (∑ i : Fin 512, expo Q K p i) * V j e

end Cert.Alg

namespace Cert.KernelIdeal.Head
open Cert.KernelIdeal Cert.KernelIdeal.Gen Cert.Alg

/-- The position of a tile's row, as a permutation of the positions. -/
def posE : Fin 512 ≃ Fin 512 where
  toFun a := ⟨pos a, pos_lt a⟩
  invFun p := ⟨p.val % 16 * 32 + p.val / 16, by omega⟩
  left_inv a := Fin.ext (by simp only [pos]; omega)
  right_inv p := Fin.ext (by simp only [pos]; omega)

section
variable {q k v : FVec Ideal S512x64 .bf16} {x : Vec Ideal S1x64x128 .f32}
  {Q K V : Fin 512 → Fin 64 → EReal} {M : Fin 64 → Fin 64 → EReal} {Z : Fin 64 → EReal}

/-- A weight of the kernel is the exponential of the score. -/
theorem weights_eq (hQ : ∀ p d, IsReal (Q p d)) (hK : ∀ p d, IsReal (K p d))
    (hq : ∀ a d, (q (ix2 a d) : EReal) = Q (posE a) d * (((8 * Real.log 2)⁻¹ : ℝ) : EReal))
    (hk : ∀ a d, (k (ix2 a d) : EReal) = K (posE a) d) (a b : Fin 512) :
    (weights q k (ix2 a b) : EReal) = Ideal.exp (score Q K (posE a) (posE b)) := by
  rw [weights_apply]
  unfold score
  by_cases h : posE a < posE b
  · rw [if_pos ((masked_apply a b).2 h), if_pos h]
    rfl
  · rw [if_neg (fun k => h ((masked_apply a b).1 k)), if_neg h, ← weight_eq (hQ _) (hK _)]
    simp only [hq, hk]

/-- The kernel's attention of a head, in its tile's order of positions. -/
theorem mix_eq (hQ : ∀ p d, IsReal (Q p d)) (hK : ∀ p d, IsReal (K p d))
    (hq : ∀ a d, (q (ix2 a d) : EReal) = Q (posE a) d * (((8 * Real.log 2)⁻¹ : ℝ) : EReal))
    (hk : ∀ a d, (k (ix2 a d) : EReal) = K (posE a) d) (hv : ∀ a d, (v (ix2 a d) : EReal) = V (posE a) d)
    (hM : ∀ d e : Fin 64, (x (ix3 0 d ⟨e.val, by omega⟩) : EReal) = M d e) (hZ : ∀ d e : Fin 64, (x (ix3 0 d ⟨64 + e.val, by omega⟩) : EReal) = Z d)
    (g : FVec Ideal S1x64 .f32) (a : Fin 512) (e : Fin 64) :
    (mix g q k v x (ix2 a e) : EReal) = attention (g (ix2 0 e)) Q K V M Z (posE a) e := by
  have hf : ∀ d, (featQ q (ix2 a d) : EReal) = feat (Q (posE a) d) := fun d => by
    rw [featQ_apply, hq, featQ_eq (hQ _ _)]
    rfl
  rw [mix_apply, quotient_apply, quotient_apply, memSums_apply, memSums_apply, localSums_apply, localSums_apply]
  simp only [hf, hM, hZ, withOnes_left, withOnes_right, weights_eq hQ hK hq hk, hv, mul_one]
  rw [Equiv.sum_comp posE fun j => Ideal.exp (score Q K (posE a) j) * V j e, Equiv.sum_comp posE fun j => Ideal.exp (score Q K (posE a) j)]
  rw [softmax_eq (score Q K (posE a)) (fun j => V j e)
    (fun j => by
      unfold score
      split
      · exact .inl rfl
      · exact .inr ((IsReal.sum fun d => (hQ _ d).mul (hK _ d)).mul ⟨_, rfl⟩))
    (posE a) (by
      unfold score
      rw [if_neg (lt_irrefl _)]
      exact (IsReal.sum fun d => (hQ _ d).mul (hK _ d)).mul ⟨_, rfl⟩)]
  rfl

/-- The kernel's new memory of a head: the left columns the memory, -/
theorem next_left (hK : ∀ p d, IsReal (K p d)) (hk : ∀ a d, (k (ix2 a d) : EReal) = K (posE a) d) (hv : ∀ a d, (v (ix2 a d) : EReal) = V (posE a) d)
    (hM : ∀ d e : Fin 64, (x (ix3 0 d ⟨e.val, by omega⟩) : EReal) = M d e) (d e : Fin 64) :
    (next k v x (ix3 0 d ⟨e.val, by omega⟩) : EReal) = M d e + ∑ p : Fin 512, feat (K p d) * V p e := by
  have hf : ∀ a, (featK k (ix2 a d) : EReal) = feat (K (posE a) d) := fun a => by
    rw [featK_apply, hk, featK_eq (hK _ _)]
    rfl
  rw [next_apply]
  simp only [hf, hM, withOnes_left, hv]
  rw [Equiv.sum_comp posE fun p => feat (K p d) * V p e]

/-- the right columns its normaliser. -/
theorem next_right (hK : ∀ p d, IsReal (K p d)) (hk : ∀ a d, (k (ix2 a d) : EReal) = K (posE a) d)
    (hZ : ∀ d e : Fin 64, (x (ix3 0 d ⟨64 + e.val, by omega⟩) : EReal) = Z d) (d e : Fin 64) :
    (next k v x (ix3 0 d ⟨64 + e.val, by omega⟩) : EReal) = Z d + ∑ p : Fin 512, feat (K p d) := by
  have hf : ∀ a, (featK k (ix2 a d) : EReal) = feat (K (posE a) d) := fun a => by
    rw [featK_apply, hk, featK_eq (hK _ _)]
    rfl
  rw [next_apply]
  simp only [hf, hZ, withOnes_right, mul_one]
  rw [Equiv.sum_comp posE fun p => feat (K p d)]

end

end Cert.KernelIdeal.Head
-- ==== Proof.Equation.lean ====
module

public import proofs.«01_k».proof.Proof.Fold
public import proofs.«01_k».proof.Proof.RefLoop
public import proofs.«01_k».proof.Proof.HeadEq

/-! The kernel's result and the reference's are equal, where the input and the matrices of the queries and the keys hold reals. -/

@[expose] public section

set_option maxRecDepth 65536

noncomputable section
open Idealize.SL.Sem
open Idealize.ShloMosaic Idealize.ShloMosaic.TcCoe

namespace Cert.ReferenceIdeal.Trip
open Cert.ReferenceIdeal Cert.ReferenceIdeal.Gen Cert.ReferenceIdeal.Value Idealize.ShloMosaic.StableHlo Cert.Alg

variable (m : (ℓ : Loc nD τ sig) → Buf (Elt Ideal) ℓ)

/-- The reference's features of the queries. -/
theorem after_featQ (c : Dev nD) (s : Fin 16) (b : Fin 4) (h : Fin 16) (p : Fin 512) (d : Fin 64) :
    featQ (after m c s.val) (ix4 b h p d) = feat (proj m (argQ m c) c s b h p d) := by
  rw [featQ_apply, after_q]
  rfl

/-- The reference's features of the keys. -/
theorem after_featK (c : Dev nD) (s : Fin 16) (b : Fin 4) (h : Fin 16) (p : Fin 512) (d : Fin 64) :
    featK (after m c s.val) (ix4 b h p d) = feat (proj m (argK m c) c s b h p d) := by
  rw [featK_apply, after_k]
  rfl

/-- The reference's exponentials of the scores less the row's largest. -/
theorem after_exps (c : Dev nD) (s : Fin 16) (b : Fin 4) (h : Fin 16) (p j : Fin 512) :
    exps (after m c s.val) (ix4 b h p j) = expo (proj m (argQ m c) c s b h) (proj m (argK m c) c s b h) p j := by
  rw [exps_apply, rowMax_apply]
  unfold expo
  have e : ∀ i, score (after m c s.val) (ix4 b h p i) = Alg.score (proj m (argQ m c) c s b h) (proj m (argK m c) c s b h) p i :=
    fun i => after_score m c s b h p i
  rw [e, show (fun i : Fin 512 => score (after m c s.val) (ix4 b h p i)) = _ from funext e]

/-- The reference's attention of a head. -/
theorem after_att (c : Dev nD) (s : Fin 16) (b : Fin 4) (h : Fin 16) (p : Fin 512) (e : Fin 64) :
    att (after m c s.val) (ix4 b h p e) = attention (Ideal.div 1 (1 + Ideal.exp (-argB m c (ix4 0 h 0 e))))
      (proj m (argQ m c) c s b h) (proj m (argK m c) c s b h) (proj m (argV m c) c s b h)
      (fun d e => mem (after m c s.val) (ix4 b h d e)) (fun d => norm (after m c s.val) (ix4 b h 0 d)) p e := by
  unfold att
  rw [attOf_apply]
  simp only [after_featQ, after_exps, after_v]
  rw [show gate (after m c s.val) (ix4 0 h 0 e) = _ from (congrFun (after_gate m c s.val) _).trans (entryGate m c h e)]
  rfl

end Cert.ReferenceIdeal.Trip

namespace Cert.KernelIdeal.Head
open Cert.KernelIdeal Cert.KernelIdeal.Gen Cert.Alg

variable (m : (ℓ : Loc nD τ sig) → Buf (Elt Ideal) ℓ)

/-- Segment `s` of sequence `b` of the input times a matrix, at head `h`'s position `p`, entry `d`. -/
def project (X : S4x8192x1024.Idx → EReal) (w : S1024x1024.Idx → EReal) (b : Fin 4) (s : Fin 16) (h : Fin 16) (p : Fin 512) (d : Fin 64) : EReal :=
  ∑ k : Fin 1024, X (ix3 b ⟨512 * s.val + (32 * h.val + p.val / 16), by omega⟩ k) * w (ix2 k ⟨64 * (p.val % 16) + d.val, by omega⟩)

/-- A projection of reals by reals is real. -/
theorem project_real {X : S4x8192x1024.Idx → EReal} {w : S1024x1024.Idx → EReal} (hX : ∀ i, IsReal (X i)) (hw : ∀ i, IsReal (w i))
    (b : Fin 4) (s : Fin 16) (h : Fin 16) (p : Fin 512) (d : Fin 64) : IsReal (project X w b s h p d) :=
  IsReal.sum fun _ => (hX _).mul (hw _)

/-- A segment's block of the input. -/
theorem blkX_pt (c : Dev nD) (b : Fin 4) (s : Fin 16) (r : Fin 512) (k : Fin 1024) :
    iblk m c 0 (pt b s.val s.isLt) (ix3 0 r k) = m ((c : Thread nD τ).loc main_arg0) (ix3 b ⟨512 * s.val + r.val, by omega⟩ k) := by
  rw [blkX]
  congr 2
  · apply Fin.ext
    show (16 * b.val + s.val) / 16 = b.val
    omega
  · apply Fin.ext
    show 512 * ((16 * b.val + s.val) % 16) + r.val = 512 * s.val + r.val
    omega

/-- The tiles of the kernel's scaled queries, keys and values. -/
theorem tileQ (c : Dev nD) (b : Fin 4) (s : Fin 16) (h : Fin 16) (a : Fin 512) (d : Fin 64) :
    (tile h (k0_pay5 (iblk m c 0 (pt b s.val s.isLt)) (iblk m c 1 (pt b s.val s.isLt))) (ix2 a d) : EReal)
      = project (m ((c : Thread nD τ).loc main_arg0)) (m ((c : Thread nD τ).loc main_arg1)) b s h (posE a) d * (((8 * Real.log 2)⁻¹ : ℝ) : EReal) := by
  have hl := log_two_pos
  rw [tile_apply, pay5_apply, sum_mul_mul_const _ _ (by positivity)]
  congr 1
  refine Finset.sum_congr rfl fun k _ => ?_
  rw [blkX_pt, blkQ]
  congr 3
  · apply Fin.ext; simp only [posE, pos, Equiv.coe_fn_mk]; omega
  · apply Fin.ext; simp only [posE, pos, Equiv.coe_fn_mk]; omega

/-- The kernel's tile of the keys is a projection of the segment. -/
theorem tileK (c : Dev nD) (b : Fin 4) (s : Fin 16) (h : Fin 16) (a : Fin 512) (d : Fin 64) :
    (tile h (k0_pay6 (iblk m c 0 (pt b s.val s.isLt)) (iblk m c 2 (pt b s.val s.isLt))) (ix2 a d) : EReal)
      = project (m ((c : Thread nD τ).loc main_arg0)) (m ((c : Thread nD τ).loc main_arg2)) b s h (posE a) d := by
  rw [tile_apply, pay6_apply]
  refine Finset.sum_congr rfl fun k _ => ?_
  rw [blkX_pt, blkK]
  congr 3
  · apply Fin.ext; simp only [posE, pos, Equiv.coe_fn_mk]; omega
  · apply Fin.ext; simp only [posE, pos, Equiv.coe_fn_mk]; omega

/-- The kernel's tile of the values is a projection of the segment. -/
theorem tileV (c : Dev nD) (b : Fin 4) (s : Fin 16) (h : Fin 16) (a : Fin 512) (d : Fin 64) :
    (tile h (k0_pay7 (iblk m c 0 (pt b s.val s.isLt)) (iblk m c 3 (pt b s.val s.isLt))) (ix2 a d) : EReal)
      = project (m ((c : Thread nD τ).loc main_arg0)) (m ((c : Thread nD τ).loc main_arg3)) b s h (posE a) d := by
  rw [tile_apply, pay7_apply]
  refine Finset.sum_congr rfl fun k _ => ?_
  rw [blkX_pt, blkV]
  congr 3
  · apply Fin.ext; simp only [posE, pos, Equiv.coe_fn_mk]; omega
  · apply Fin.ext; simp only [posE, pos, Equiv.coe_fn_mk]; omega

end Cert.KernelIdeal.Head
-- ==== Proof.Equal.lean ====
module

public import proofs.«01_k».proof.Proof.Equation

/-! The kernel's result and the reference's are equal, where the input and the matrices of the queries and the keys hold reals. -/

@[expose] public section

set_option maxRecDepth 65536

noncomputable section
open Idealize.SL.Sem
open Idealize.ShloMosaic Idealize.ShloMosaic.TcCoe

namespace Cert.Equal
open Cert.KernelIdeal Cert.KernelIdeal.Gen Cert.KernelIdeal.Head Cert.Alg

/-- The reference's arguments are the kernel's on device `c`, and the input and the matrices of the queries and the keys hold reals. -/
structure Same (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop where
  x : ReferenceIdeal.Trip.argX m' c = m ((c : Thread nD τ).loc main_arg0)
  q : ReferenceIdeal.Trip.argQ m' c = m ((c : Thread nD τ).loc main_arg1)
  k : ReferenceIdeal.Trip.argK m' c = m ((c : Thread nD τ).loc main_arg2)
  v : ReferenceIdeal.Trip.argV m' c = m ((c : Thread nD τ).loc main_arg3)
  o : ReferenceIdeal.Trip.argO m' c = m ((c : Thread nD τ).loc main_arg4)
  g : ReferenceIdeal.Trip.argB m' c = m ((c : Thread nD τ).loc main_arg5)
  m₀ : ReferenceIdeal.Trip.argM m' c = m ((c : Thread nD τ).loc main_arg6)
  z₀ : ReferenceIdeal.Trip.argZ m' c = m ((c : Thread nD τ).loc main_arg7)
  realX : ∀ i, IsReal (ReferenceIdeal.Trip.argX m' c i)
  realQ : ∀ i, IsReal (ReferenceIdeal.Trip.argQ m' c i)
  realK : ∀ i, IsReal (ReferenceIdeal.Trip.argK m' c i)

variable {m : (ℓ : Loc nD τ sig) → Buf (Elt Ideal) ℓ}
  {m' : (ℓ : Loc Cert.ReferenceIdeal.nD Cert.ReferenceIdeal.τ Cert.ReferenceIdeal.sig) → Buf (Elt Ideal) ℓ} {c : Dev nD}

/-- The reference's queries, keys and values of a segment and a head. -/
abbrev rQ (m' : (ℓ : Loc Cert.ReferenceIdeal.nD Cert.ReferenceIdeal.τ Cert.ReferenceIdeal.sig) → Buf (Elt Ideal) ℓ) (c : Dev nD) (b : Fin 4) (s h : Fin 16) :
    Fin 512 → Fin 64 → EReal := ReferenceIdeal.Trip.proj m' (ReferenceIdeal.Trip.argQ m' c) c s b h
/-- The reference's keys of a segment and a head. -/
abbrev rK (m' : (ℓ : Loc Cert.ReferenceIdeal.nD Cert.ReferenceIdeal.τ Cert.ReferenceIdeal.sig) → Buf (Elt Ideal) ℓ) (c : Dev nD) (b : Fin 4) (s h : Fin 16) :
    Fin 512 → Fin 64 → EReal := ReferenceIdeal.Trip.proj m' (ReferenceIdeal.Trip.argK m' c) c s b h
/-- The reference's values of a segment and a head. -/
abbrev rV (m' : (ℓ : Loc Cert.ReferenceIdeal.nD Cert.ReferenceIdeal.τ Cert.ReferenceIdeal.sig) → Buf (Elt Ideal) ℓ) (c : Dev nD) (b : Fin 4) (s h : Fin 16) :
    Fin 512 → Fin 64 → EReal := ReferenceIdeal.Trip.proj m' (ReferenceIdeal.Trip.argV m' c) c s b h

/-- The queries are reals. -/
theorem realQ (H : Same m m' c) (b : Fin 4) (s h : Fin 16) (p : Fin 512) (d : Fin 64) : IsReal (rQ m' c b s h p d) :=
  project_real H.realX H.realQ b s h p d

/-- The keys are reals. -/
theorem realK (H : Same m m' c) (b : Fin 4) (s h : Fin 16) (p : Fin 512) (d : Fin 64) : IsReal (rK m' c b s h p d) :=
  project_real H.realX H.realK b s h p d

/-- The kernel's tile of the queries holds the reference's, scaled, with the rows in the tile's order. -/
theorem tileQ_eq (H : Same m m' c) (b : Fin 4) (s h : Fin 16) (a : Fin 512) (d : Fin 64) :
    (tile h (k0_pay5 (iblk m c 0 (pt b s.val s.isLt)) (iblk m c 1 (pt b s.val s.isLt))) (ix2 a d) : EReal)
      = rQ m' c b s h (posE a) d * (((8 * Real.log 2)⁻¹ : ℝ) : EReal) := by
  rw [tileQ, ← H.x, ← H.q]
  rfl

/-- The kernel's tile of the keys holds the reference's, with the rows in the tile's order. -/
theorem tileK_eq (H : Same m m' c) (b : Fin 4) (s h : Fin 16) (a : Fin 512) (d : Fin 64) :
    (tile h (k0_pay6 (iblk m c 0 (pt b s.val s.isLt)) (iblk m c 2 (pt b s.val s.isLt))) (ix2 a d) : EReal) = rK m' c b s h (posE a) d := by
  rw [tileK, ← H.x, ← H.k]
  rfl

/-- The kernel's tile of the values holds the reference's, with the rows in the tile's order. -/
theorem tileV_eq (H : Same m m' c) (b : Fin 4) (s h : Fin 16) (a : Fin 512) (d : Fin 64) :
    (tile h (k0_pay7 (iblk m c 0 (pt b s.val s.isLt)) (iblk m c 3 (pt b s.val s.isLt))) (ix2 a d) : EReal) = rV m' c b s h (posE a) d := by
  rw [tileV, ← H.x, ← H.v]
  rfl

/-- The memory before each segment: the kernel's left columns are the reference's memory and the right columns its normaliser. -/
theorem mem_eq (H : Same m m' c) (b : Fin 4) : ∀ (s : ℕ) (hs : s ≤ 16),
    (∀ (h : Fin 16) (d e : Fin 64), (segMem m c b s hs (ix3 h d ⟨e.val, by omega⟩) : EReal) = ReferenceIdeal.Trip.mem (ReferenceIdeal.Trip.after m' c s) (ix4 b h d e))
    ∧ (∀ (h : Fin 16) (d e : Fin 64), (segMem m c b s hs (ix3 h d ⟨64 + e.val, by omega⟩) : EReal) = ReferenceIdeal.Trip.norm (ReferenceIdeal.Trip.after m' c s) (ix4 b h 0 d))
  | 0, _ => by
    have t : Fin cfg0.N := pt b 0 (by omega)
    constructor
    · intro h d e
      exact (blkMem m c t h d _).symm.trans ((blkM m c t h d e).trans ((congrFun H.m₀ _).symm.trans (ReferenceIdeal.Trip.after_mem_zero m' c b h d e).symm))
    · intro h d e
      exact (blkMem m c t h d _).symm.trans ((blkZ m c t h d e).trans ((congrFun H.z₀ _).symm.trans (ReferenceIdeal.Trip.after_norm_zero m' c b h d).symm))
  | s + 1, hs => by
    obtain ⟨ihM, ihZ⟩ := mem_eq H b s (Nat.le_of_succ_le hs)
    constructor
    · intro h d e
      refine (next_left (x := headOf (segMem m c b s (Nat.le_of_succ_le hs)) h) (realK H b ⟨s, hs⟩ h) (tileK_eq H b ⟨s, hs⟩ h) (tileV_eq H b ⟨s, hs⟩ h) (ihM h) d e).trans ?_
      rw [ReferenceIdeal.Trip.after_mem_succ]
      congr 1
      refine Finset.sum_congr rfl fun p _ => ?_
      exact (congr (congrArg HMul.hMul (ReferenceIdeal.Trip.after_featK m' c ⟨s, hs⟩ b h p d)) (ReferenceIdeal.Trip.after_v m' c ⟨s, hs⟩ b h p e)).symm
    · intro h d e
      refine (next_right (x := headOf (segMem m c b s (Nat.le_of_succ_le hs)) h) (realK H b ⟨s, hs⟩ h) (tileK_eq H b ⟨s, hs⟩ h) (ihZ h) d e).trans ?_
      rw [ReferenceIdeal.Trip.after_norm_succ]
      congr 1
      refine Finset.sum_congr rfl fun p _ => ?_
      exact (ReferenceIdeal.Trip.after_featK m' c ⟨s, hs⟩ b h p d).symm

/-- The two results at an index. -/
theorem result_eq (H : Same m m' c) (b : Fin 4) (s : Fin 16) (r : Fin 512) (n : Fin 1024) :
    (Cert.KernelIdeal.Value.G7 m c (ix3 b ⟨512 * s.val + r.val, by omega⟩ n) : EReal)
      = (ReferenceIdeal.Value.out_main_v24 (ReferenceIdeal.Value.STEP^[16] (StableHlo.entryContents ReferenceIdeal.Value.preI m' c)) : S4x8192x1024.Idx → EReal)
          (ix3 b ⟨512 * s.val + r.val, by omega⟩ n) := by
  obtain ⟨hM, hZ⟩ := mem_eq H b s.val s.isLt.le
  refine (Head.result m c b s r n).trans ?_
  refine Eq.trans ?_ (ReferenceIdeal.Trip.result m' c b s r n).symm
  rw [ReferenceIdeal.Trip.outOf_apply, H.o]
  change @Eq EReal _ _
  refine Finset.sum_congr rfl fun k _ => congrArg (· * _) ?_
  refine (rows_apply _ _ _ _ _ _ _).trans ?_
  refine (mix_eq (x := headOf (segMem m c b s.val s.isLt.le) (headIdx r)) (realQ H b s (headIdx r)) (realK H b s (headIdx r)) (tileQ_eq H b s (headIdx r)) (tileK_eq H b s (headIdx r)) (tileV_eq H b s (headIdx r))
    (hM (headIdx r)) (hZ (headIdx r)) _ _ _).trans ?_
  rw [ReferenceIdeal.Trip.after_att, gateRow_apply, blkG, ← H.g, sub_eq_add_neg, zero_add]
  have hp : posE ⟨32 * (k.val / 64) + r.val % 32, by have := k.isLt; omega⟩ = ⟨r.val % 32 * 16 + k.val / 64, by have := k.isLt; omega⟩ :=
    Fin.ext (by simp only [posE, pos, Equiv.coe_fn_mk]; omega)
  refine (congrArg (attention _ _ _ _ _ _ · _) hp).trans ?_
  rfl

/-- The two results. -/
theorem results (H : Same m m' c) :
    (Cert.KernelIdeal.Value.G7 m c : S4x8192x1024.Idx → EReal)
      = ReferenceIdeal.Value.out_main_v24 (ReferenceIdeal.Value.STEP^[16] (StableHlo.entryContents ReferenceIdeal.Value.preI m' c)) := by
  funext j
  have hi : (j 1).val < 8192 := (j 1).isLt
  have e : j = ix3 (j 0) ⟨512 * (⟨(j 1).val / 512, by omega⟩ : Fin 16).val + (⟨(j 1).val % 512, by omega⟩ : Fin 512).val, by simp only []; omega⟩ (j 2) :=
    (eq_ix3 j).trans (congrArg (ix3 (j 0) · (j 2)) (Fin.ext (Nat.div_add_mod _ _).symm))
  rw [e]
  exact result_eq H (j 0) _ _ (j 2)

end Cert.Equal
-- ==== Proof.Finite.lean ====
module

public import proofs.«01_k».proof.Pre_finite_projections
public import proofs.«01_k».proof.Proof.Alg
public import Idealize.ShloMosaic.Lib.Pointwise
public import Idealize.ShloMosaic.Lib.ReduceAll

/-! What the precondition says: the input and the matrices of the queries and the keys hold reals. -/

@[expose] public section

noncomputable section
open Idealize.ShloMosaic Idealize.SL.Sem

namespace Cert.Finite
open Cert.Pre_finite_projections Cert.Alg

/-- The side conditions of the precondition's operations. -/
theorem facts : Cert.Pre_finite_projections.Facts where
  bcast_S_S4x8192x1024 := by decide
  reducesTo_S4x8192x1024_S_d0_1_2 := by decide
  h_S_ := by decide
  bcast_S_S1024x1024 := by decide
  reducesTo_S1024x1024_S_d0_1 := by decide

/-- The word of the bound is plus infinity. -/
theorem posInf : (Ideal.ofBits .f32 0x7F800000#32 : EReal) = ⊤ := by simp [Ideal.ofBits, Ideal.ieee]

/-- An element whose size is less than infinity is a real. -/
theorem isReal_of_lt {s : Shape} (x : FVec Ideal s .f32) (hb : S_.BroadcastsInDim s ![]) (i : s.Idx)
    (h : cmpf .olt (Host.absf x) (broadcastInDim s ![] hb (constant S_ .f32 0x7F800000#32)) i = 1#1) : IsReal (x i) := by
  revert h
  pointwise
  intro h
  have hb' : ∀ c : Bool, BitVec.ofBool c = 1#1 → c = true := by decide
  have h' := of_decide_eq_true (hb' _ h)
  rw [posInf] at h'
  change max (x i : EReal) (-(x i : EReal)) < ⊤ at h'
  generalize (x i : EReal) = y at h' ⊢
  induction y using EReal.rec with
  | bot => simp at h'
  | top => simp at h'
  | coe r => exact ⟨r, rfl⟩

/-- When all elements' sizes are less than infinity, all are reals. -/
theorem isReal_of_all {s : Shape} {axes : List (Fin s.rank)} (x : FVec Ideal s .f32) (hb : S_.BroadcastsInDim s ![]) (hr : s.ReducesTo axes S_) (hu : 0 < S_.numel)
    (h : Host.reduce IntOp.andi (cmpf .olt (Host.absf x) (broadcastInDim s ![] hb (constant S_ .f32 0x7F800000#32))) (constantI S_ 1 1#1) hr hu (Shape.Idx.first hu) = 1#1)
    (i : s.Idx) : IsReal (x i) := by
  haveI : Subsingleton S_.Idx := ⟨fun a b => funext fun k => k.elim0⟩
  exact isReal_of_lt x hb i (Host.reduce_andi_all _ _ hr hu _ h i)

/-- Where the precondition holds. -/
theorem of_pre [Cert.Pre_finite_projections.Facts] {x0 : FVec Ideal S4x8192x1024 .f32} {x1 x2 x3 x4 : FVec Ideal S1024x1024 .f32} {x5 : FVec Ideal S1x16x1x64 .f32}
    {x6 : FVec Ideal S1x16x64x64 .f32} {x7 : FVec Ideal S1x16x1x64 .f32} (h : fn x0 x1 x2 x3 x4 x5 x6 x7 (Shape.Idx.first Facts.h_S_) = 1#1) :
    (∀ i, IsReal (x0 i)) ∧ (∀ i, IsReal (x1 i)) ∧ (∀ i, IsReal (x2 i)) := by
  have hand : ∀ a b : BitVec 1, IntOp.andi a b = 1#1 → a = 1#1 ∧ b = 1#1 := by decide
  obtain ⟨h01, h2⟩ := hand _ _ h
  obtain ⟨h0, h1⟩ := hand _ _ h01
  exact ⟨isReal_of_all x0 _ _ _ h0, isReal_of_all x1 _ _ _ h1, isReal_of_all x2 _ _ _ h2⟩

end Cert.Finite
-- ==== Proof.lean ====
/- The claims of Defs.lean about the attention kernel, proved: the kernel and its ideal form run and leave their arguments,
   so does the reference, the two constants are what their names say, and where the input and the matrices of the queries
   and the keys are finite the kernel's result over the extended reals is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import proofs.«01_k».proof.Proof.Finite
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

instance : Cert.Pre_finite_projections.Facts := Cert.Finite.facts

/-- The reference runs, leaves its arguments as they were, and every counter ends at zero: it has no semaphores. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- The two named constants, as printed, stand for the numbers their names say. -/
theorem preserves : Cert.preserves_Kernel_KernelIdeal :=
  ⟨IdealRules.named_const.statement Cert.KernelIdeal.κ "q_scale" .f32 0x3E38AA3B#32 _ rfl,
    IdealRules.named_const.statement Cert.KernelIdeal.κ "inv_q_scale" .bf16 0x40B1#16 _ rfl⟩

/-- Over the extended reals, from the same arguments with the input and the matrices of the queries and the keys finite,
    the kernel and the reference end with the same result. -/
theorem algebraic : Cert.algebraic_KernelIdeal_ReferenceIdeal_pre_finite_projections := by
  intro m g m' g' hpre hagree
  have same : ∀ c, Cert.Equal.Same m m' c := fun c => by
    obtain ⟨h0, h1, h2, h3, h4, h5, h6, h7⟩ := hagree c
    obtain ⟨r0, r1, r2⟩ := Cert.Finite.of_pre (congrFun (hpre c) _)
    exact ⟨h0, h1, h2, h3, h4, h5, h6, h7, fun i => (congrArg Cert.Alg.IsReal (congrFun h0 i)).mpr (r0 i),
      fun i => (congrArg Cert.Alg.IsReal (congrFun h1 i)).mpr (r1 i), fun i => (congrArg Cert.Alg.IsReal (congrFun h2 i)).mpr (r2 i)⟩
  exact ⟨fun c => Cert.KernelIdeal.Value.G7 m c, Cert.KernelIdeal.Value.run m g,
    (θ_run _ _ _).mono (fun r h c => ⟨(h c).1.trans (Cert.Equal.results (same c)).symm, (h c).2⟩) (Cert.ReferenceIdeal.Value.run m' g')⟩

/-- Every claim. -/
theorem claim : Cert.Claim :=
  ⟨Cert.Kernel.Gen.facts, Cert.KernelIdeal.Gen.facts, Cert.ReferenceIdeal.Gen.facts, Cert.Finite.facts,
    fun m g _ => Cert.Kernel.Gen.frame m g, fun m g _ => Cert.KernelIdeal.Gen.frame m g, fun m g _ => Cert.KernelIdeal.Gen.frame m g,
    reference_frame, fun m g _ => reference_frame m g trivial, preserves, algebraic⟩

end Cert.Proof

end
